-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S256x1024 : Shape := ⟨2, ![256, 1024]⟩
abbrev S16x8x128 : Shape := ⟨3, ![16, 8, 128]⟩
abbrev S16 : Shape := ⟨1, ![16]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1024x2048 : Shape := ⟨2, ![1024, 2048]⟩
abbrev S1x256x2048 : Shape := ⟨3, ![1, 256, 2048]⟩
abbrev S1x1x1 : Shape := ⟨3, ![1, 1, 1]⟩
abbrev S1x8x128 : Shape := ⟨3, ![1, 8, 128]⟩
abbrev S8x128 : Shape := ⟨2, ![8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S4096x2048, .f32⟩
  | .local _ .vmem, ⟨2, _⟩ => ⟨S256x2048, .f32⟩
  | .local _ .vmem, ⟨3, _⟩ => ⟨S4096x256, .bf16⟩
  | .local _ .vmem, ⟨4, _⟩ => ⟨S16x256x256, .bf16⟩
  | .local _ .vmem, ⟨5, _⟩ => ⟨S256x1024, .f32⟩
  | .local _ .vmem, ⟨6, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v10 : BitVec 32 := Scalar.addi v2 c1_i32_3
  let c16_i32_4 : BitVec 32 := 16#32
  let v11 : BitVec 32 := Scalar.remsi v10 c16_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 32 := Scalar.addi v2 c2_i32
  let c16_i32_7 : BitVec 32 := 16#32
  let v15 : BitVec 32 := Scalar.remsi v14 c16_i32_7
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v18 : BitVec 32 := Scalar.addi v2 c3_i32
  let c16_i32_11 : BitVec 32 := 16#32
  let v19 : BitVec 32 := Scalar.remsi v18 c16_i32_11
  let c1_i32_13 : BitVec 32 := 1#32
  let v20 : BitVec 32 := Scalar.muli v19 c1_i32_13
  let v21 : BitVec 32 := Scalar.addi c0_i32_14 v20
  v21.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.addi v2 c4_i32
  let c16_i32_15 : BitVec 32 := 16#32
  let v23 : BitVec 32 := Scalar.remsi v22 c16_i32_15
  let c1_i32_17 : BitVec 32 := 1#32
  let v24 : BitVec 32 := Scalar.muli v23 c1_i32_17
  let v25 : BitVec 32 := Scalar.addi c0_i32_18 v24
  v25.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v26 : BitVec 32 := Scalar.addi v2 c5_i32
  let c16_i32_19 : BitVec 32 := 16#32
  let v27 : BitVec 32 := Scalar.remsi v26 c16_i32_19
  let c1_i32_21 : BitVec 32 := 1#32
  let v28 : BitVec 32 := Scalar.muli v27 c1_i32_21
  let v29 : BitVec 32 := Scalar.addi c0_i32_22 v28
  v29.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v30 : BitVec 32 := Scalar.addi v2 c6_i32
  let c16_i32_23 : BitVec 32 := 16#32
  let v31 : BitVec 32 := Scalar.remsi v30 c16_i32_23
  let c1_i32_25 : BitVec 32 := 1#32
  let v32 : BitVec 32 := Scalar.muli v31 c1_i32_25
  let v33 : BitVec 32 := Scalar.addi c0_i32_26 v32
  v33.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v34 : BitVec 32 := Scalar.addi v2 c7_i32
  let c16_i32_27 : BitVec 32 := 16#32
  let v35 : BitVec 32 := Scalar.remsi v34 c16_i32_27
  let c1_i32_29 : BitVec 32 := 1#32
  let v36 : BitVec 32 := Scalar.muli v35 c1_i32_29
  let v37 : BitVec 32 := Scalar.addi c0_i32_30 v36
  v37.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v38 : BitVec 32 := Scalar.addi v2 c8_i32
  let c16_i32_31 : BitVec 32 := 16#32
  let v39 : BitVec 32 := Scalar.remsi v38 c16_i32_31
  let c1_i32_33 : BitVec 32 := 1#32
  let v40 : BitVec 32 := Scalar.muli v39 c1_i32_33
  let v41 : BitVec 32 := Scalar.addi c0_i32_34 v40
  v41.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v42 : BitVec 32 := Scalar.addi v2 c9_i32
  let c16_i32_35 : BitVec 32 := 16#32
  let v43 : BitVec 32 := Scalar.remsi v42 c16_i32_35
  let c1_i32_37 : BitVec 32 := 1#32
  let v44 : BitVec 32 := Scalar.muli v43 c1_i32_37
  let v45 : BitVec 32 := Scalar.addi c0_i32_38 v44
  v45.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 32 := Scalar.addi v2 c10_i32
  let c16_i32_39 : BitVec 32 := 16#32
  let v47 : BitVec 32 := Scalar.remsi v46 c16_i32_39
  let c1_i32_41 : BitVec 32 := 1#32
  let v48 : BitVec 32 := Scalar.muli v47 c1_i32_41
  let v49 : BitVec 32 := Scalar.addi c0_i32_42 v48
  v49.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v50 : BitVec 32 := Scalar.addi v2 c11_i32
  let c16_i32_43 : BitVec 32 := 16#32
  let v51 : BitVec 32 := Scalar.remsi v50 c16_i32_43
  let c1_i32_45 : BitVec 32 := 1#32
  let v52 : BitVec 32 := Scalar.muli v51 c1_i32_45
  let v53 : BitVec 32 := Scalar.addi c0_i32_46 v52
  v53.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v54 : BitVec 32 := Scalar.addi v2 c12_i32
  let c16_i32_47 : BitVec 32 := 16#32
  let v55 : BitVec 32 := Scalar.remsi v54 c16_i32_47
  let c1_i32_49 : BitVec 32 := 1#32
  let v56 : BitVec 32 := Scalar.muli v55 c1_i32_49
  let v57 : BitVec 32 := Scalar.addi c0_i32_50 v56
  v57.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v58 : BitVec 32 := Scalar.addi v2 c13_i32
  let c16_i32_51 : BitVec 32 := 16#32
  let v59 : BitVec 32 := Scalar.remsi v58 c16_i32_51
  let c1_i32_53 : BitVec 32 := 1#32
  let v60 : BitVec 32 := Scalar.muli v59 c1_i32_53
  let v61 : BitVec 32 := Scalar.addi c0_i32_54 v60
  v61.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v62 : BitVec 32 := Scalar.addi v2 c14_i32
  let c16_i32_55 : BitVec 32 := 16#32
  let v63 : BitVec 32 := Scalar.remsi v62 c16_i32_55
  let c1_i32_57 : BitVec 32 := 1#32
  let v64 : BitVec 32 := Scalar.muli v63 c1_i32_57
  let v65 : BitVec 32 := Scalar.addi c0_i32_58 v64
  v65.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v66 : BitVec 32 := Scalar.addi v2 c15_i32
  let c16_i32_59 : BitVec 32 := 16#32
  let v67 : BitVec 32 := Scalar.remsi v66 c16_i32_59
  let c1_i32_61 : BitVec 32 := 1#32
  let v68 : BitVec 32 := Scalar.muli v67 c1_i32_61
  let v69 : BitVec 32 := Scalar.addi c0_i32_62 v68
  v69.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_70 : BitVec 32 := 0#32
  let c0_i32_71 : BitVec 32 := 0#32
  ![v2.toNat, 0, 0]
def k0_off3 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.subi v2 c1_i32_64
  let c16_i32_65 : BitVec 32 := 16#32
  let v71 : BitVec 32 := Scalar.addi v70 c16_i32_65
  let c16_i32_66 : BitVec 32 := 16#32
  let v72 : BitVec 32 := Scalar.remsi v71 c16_i32_66
  let c256_i32 : BitVec 32 := 256#32
  let v73 : BitVec 32 := Scalar.muli v72 c256_i32
  let c0_i32_72 : BitVec 32 := 0#32
  ![v73.toNat, 0]
def k0_dev16 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.subi v2 c1_i32_64
  let c16_i32_65 : BitVec 32 := 16#32
  let v71 : BitVec 32 := Scalar.addi v70 c16_i32_65
  let c16_i32_66 : BitVec 32 := 16#32
  let v72 : BitVec 32 := Scalar.remsi v71 c16_i32_66
  let c1_i32_68 : BitVec 32 := 1#32
  let v74 : BitVec 32 := Scalar.muli v72 c1_i32_68
  let v75 : BitVec 32 := Scalar.addi c0_i32_69 v74
  v75.toNat
def k0_dev17 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v83 : BitVec 32 := Scalar.subi v2 c2_i32_73
  let c16_i32_74 : BitVec 32 := 16#32
  let v84 : BitVec 32 := Scalar.addi v83 c16_i32_74
  let c16_i32_75 : BitVec 32 := 16#32
  let v85 : BitVec 32 := Scalar.remsi v84 c16_i32_75
  let c1_i32_78 : BitVec 32 := 1#32
  let v87 : BitVec 32 := Scalar.muli v85 c1_i32_78
  let v88 : BitVec 32 := Scalar.addi c0_i32_79 v87
  v88.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v96 : BitVec 32 := Scalar.subi v2 c3_i32_83
  let c16_i32_84 : BitVec 32 := 16#32
  let v97 : BitVec 32 := Scalar.addi v96 c16_i32_84
  let c16_i32_85 : BitVec 32 := 16#32
  let v98 : BitVec 32 := Scalar.remsi v97 c16_i32_85
  let c1_i32_88 : BitVec 32 := 1#32
  let v100 : BitVec 32 := Scalar.muli v98 c1_i32_88
  let v101 : BitVec 32 := Scalar.addi c0_i32_89 v100
  v101.toNat
def k0_dev19 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v109 : BitVec 32 := Scalar.subi v2 c4_i32_93
  let c16_i32_94 : BitVec 32 := 16#32
  let v110 : BitVec 32 := Scalar.addi v109 c16_i32_94
  let c16_i32_95 : BitVec 32 := 16#32
  let v111 : BitVec 32 := Scalar.remsi v110 c16_i32_95
  let c1_i32_98 : BitVec 32 := 1#32
  let v113 : BitVec 32 := Scalar.muli v111 c1_i32_98
  let v114 : BitVec 32 := Scalar.addi c0_i32_99 v113
  v114.toNat
def k0_dev20 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_103 : BitVec 32 := 5#32
  let v122 : BitVec 32 := Scalar.subi v2 c5_i32_103
  let c16_i32_104 : BitVec 32 := 16#32
  let v123 : BitVec 32 := Scalar.addi v122 c16_i32_104
  let c16_i32_105 : BitVec 32 := 16#32
  let v124 : BitVec 32 := Scalar.remsi v123 c16_i32_105
  let c1_i32_108 : BitVec 32 := 1#32
  let v126 : BitVec 32 := Scalar.muli v124 c1_i32_108
  let v127 : BitVec 32 := Scalar.addi c0_i32_109 v126
  v127.toNat
def k0_dev21 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_113 : BitVec 32 := 6#32
  let v135 : BitVec 32 := Scalar.subi v2 c6_i32_113
  let c16_i32_114 : BitVec 32 := 16#32
  let v136 : BitVec 32 := Scalar.addi v135 c16_i32_114
  let c16_i32_115 : BitVec 32 := 16#32
  let v137 : BitVec 32 := Scalar.remsi v136 c16_i32_115
  let c1_i32_118 : BitVec 32 := 1#32
  let v139 : BitVec 32 := Scalar.muli v137 c1_i32_118
  let v140 : BitVec 32 := Scalar.addi c0_i32_119 v139
  v140.toNat
def k0_dev22 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_123 : BitVec 32 := 7#32
  let v148 : BitVec 32 := Scalar.subi v2 c7_i32_123
  let c16_i32_124 : BitVec 32 := 16#32
  let v149 : BitVec 32 := Scalar.addi v148 c16_i32_124
  let c16_i32_125 : BitVec 32 := 16#32
  let v150 : BitVec 32 := Scalar.remsi v149 c16_i32_125
  let c1_i32_128 : BitVec 32 := 1#32
  let v152 : BitVec 32 := Scalar.muli v150 c1_i32_128
  let v153 : BitVec 32 := Scalar.addi c0_i32_129 v152
  v153.toNat
def k0_dev23 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_133 : BitVec 32 := 8#32
  let v161 : BitVec 32 := Scalar.subi v2 c8_i32_133
  let c16_i32_134 : BitVec 32 := 16#32
  let v162 : BitVec 32 := Scalar.addi v161 c16_i32_134
  let c16_i32_135 : BitVec 32 := 16#32
  let v163 : BitVec 32 := Scalar.remsi v162 c16_i32_135
  let c1_i32_138 : BitVec 32 := 1#32
  let v165 : BitVec 32 := Scalar.muli v163 c1_i32_138
  let v166 : BitVec 32 := Scalar.addi c0_i32_139 v165
  v166.toNat
def k0_dev24 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_143 : BitVec 32 := 9#32
  let v174 : BitVec 32 := Scalar.subi v2 c9_i32_143
  let c16_i32_144 : BitVec 32 := 16#32
  let v175 : BitVec 32 := Scalar.addi v174 c16_i32_144
  let c16_i32_145 : BitVec 32 := 16#32
  let v176 : BitVec 32 := Scalar.remsi v175 c16_i32_145
  let c1_i32_148 : BitVec 32 := 1#32
  let v178 : BitVec 32 := Scalar.muli v176 c1_i32_148
  let v179 : BitVec 32 := Scalar.addi c0_i32_149 v178
  v179.toNat
def k0_dev25 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_153 : BitVec 32 := 10#32
  let v187 : BitVec 32 := Scalar.subi v2 c10_i32_153
  let c16_i32_154 : BitVec 32 := 16#32
  let v188 : BitVec 32 := Scalar.addi v187 c16_i32_154
  let c16_i32_155 : BitVec 32 := 16#32
  let v189 : BitVec 32 := Scalar.remsi v188 c16_i32_155
  let c1_i32_158 : BitVec 32 := 1#32
  let v191 : BitVec 32 := Scalar.muli v189 c1_i32_158
  let v192 : BitVec 32 := Scalar.addi c0_i32_159 v191
  v192.toNat
def k0_dev26 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_163 : BitVec 32 := 11#32
  let v200 : BitVec 32 := Scalar.subi v2 c11_i32_163
  let c16_i32_164 : BitVec 32 := 16#32
  let v201 : BitVec 32 := Scalar.addi v200 c16_i32_164
  let c16_i32_165 : BitVec 32 := 16#32
  let v202 : BitVec 32 := Scalar.remsi v201 c16_i32_165
  let c1_i32_168 : BitVec 32 := 1#32
  let v204 : BitVec 32 := Scalar.muli v202 c1_i32_168
  let v205 : BitVec 32 := Scalar.addi c0_i32_169 v204
  v205.toNat
def k0_dev27 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_173 : BitVec 32 := 12#32
  let v213 : BitVec 32 := Scalar.subi v2 c12_i32_173
  let c16_i32_174 : BitVec 32 := 16#32
  let v214 : BitVec 32 := Scalar.addi v213 c16_i32_174
  let c16_i32_175 : BitVec 32 := 16#32
  let v215 : BitVec 32 := Scalar.remsi v214 c16_i32_175
  let c1_i32_178 : BitVec 32 := 1#32
  let v217 : BitVec 32 := Scalar.muli v215 c1_i32_178
  let v218 : BitVec 32 := Scalar.addi c0_i32_179 v217
  v218.toNat
def k0_dev28 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_183 : BitVec 32 := 13#32
  let v226 : BitVec 32 := Scalar.subi v2 c13_i32_183
  let c16_i32_184 : BitVec 32 := 16#32
  let v227 : BitVec 32 := Scalar.addi v226 c16_i32_184
  let c16_i32_185 : BitVec 32 := 16#32
  let v228 : BitVec 32 := Scalar.remsi v227 c16_i32_185
  let c1_i32_188 : BitVec 32 := 1#32
  let v230 : BitVec 32 := Scalar.muli v228 c1_i32_188
  let v231 : BitVec 32 := Scalar.addi c0_i32_189 v230
  v231.toNat
def k0_dev29 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_193 : BitVec 32 := 14#32
  let v239 : BitVec 32 := Scalar.subi v2 c14_i32_193
  let c16_i32_194 : BitVec 32 := 16#32
  let v240 : BitVec 32 := Scalar.addi v239 c16_i32_194
  let c16_i32_195 : BitVec 32 := 16#32
  let v241 : BitVec 32 := Scalar.remsi v240 c16_i32_195
  let c1_i32_198 : BitVec 32 := 1#32
  let v243 : BitVec 32 := Scalar.muli v241 c1_i32_198
  let v244 : BitVec 32 := Scalar.addi c0_i32_199 v243
  v244.toNat
def k0_dev30 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_203 : BitVec 32 := 15#32
  let v252 : BitVec 32 := Scalar.subi v2 c15_i32_203
  let c16_i32_204 : BitVec 32 := 16#32
  let v253 : BitVec 32 := Scalar.addi v252 c16_i32_204
  let c16_i32_205 : BitVec 32 := 16#32
  let v254 : BitVec 32 := Scalar.remsi v253 c16_i32_205
  let c1_i32_208 : BitVec 32 := 1#32
  let v256 : BitVec 32 := Scalar.muli v254 c1_i32_208
  let v257 : BitVec 32 := Scalar.addi c0_i32_209 v256
  v257.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_213 : BitVec 32 := 256#32
  let v265 : BitVec 32 := Scalar.muli v2 c256_i32_213
  let v266 : Index := Scalar.indexCast v265
  let c0_214 : Index := 0#32
  ![v266.toNat, 0]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v269 : Index := Scalar.indexCast v2
  let c0_215 : Index := 0#32
  let c0_216 : Index := 0#32
  ![v269.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_220 : BitVec 32 := 4#32
  let v276 : BitVec 32 := Scalar.muli v275 c4_i32_220
  let c0_i32_221 : BitVec 32 := 0#32
  let v277 : BitVec 32 := Scalar.addi v276 c0_i32_221
  let v278 : BitVec 1 := Scalar.cmpi .ne v277 v2
  let v279 : BitVec 32 := Scalar.extui v278
  let c0_i32_222 : BitVec 32 := 0#32
  let v280 : BitVec 1 := Scalar.cmpi .ne v279 c0_i32_222
  v280

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_220 : BitVec 32 := 4#32
  let v276 : BitVec 32 := Scalar.muli v275 c4_i32_220
  let c0_i32_221 : BitVec 32 := 0#32
  let v277 : BitVec 32 := Scalar.addi v276 c0_i32_221
  ![v277.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_220 : BitVec 32 := 4#32
  let v276 : BitVec 32 := Scalar.muli v275 c4_i32_220
  let c0_i32_221 : BitVec 32 := 0#32
  let v277 : BitVec 32 := Scalar.addi v276 c0_i32_221
  let c0_i32_827 : BitVec 32 := 0#32
  let c0_i32_828 : BitVec 32 := 0#32
  ![v277.toNat, 0, 0]
def k0_off8 (d0 : Dev nD) (c0_i32_218 : BitVec 32) (c0_i32_221 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let v274 : BitVec 32 := Scalar.addi v273 c0_i32_218
  let c4_i32_219 : BitVec 32 := 4#32
  let v275 : BitVec 32 := Scalar.remsi v274 c4_i32_219
  let c4_i32_220 : BitVec 32 := 4#32
  let v276 : BitVec 32 := Scalar.muli v275 c4_i32_220
  let v277 : BitVec 32 := Scalar.addi v276 c0_i32_221
  let v281 : Index := Scalar.indexCast v277
  let c0_223 : Index := 0#32
  let c0_224 : Index := 0#32
  ![v281.toNat, 0, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_227 : BitVec 32 := 4#32
  let v288 : BitVec 32 := Scalar.muli v275 c4_i32_227
  let c1_i32_228 : BitVec 32 := 1#32
  let v289 : BitVec 32 := Scalar.addi v288 c1_i32_228
  let v290 : BitVec 1 := Scalar.cmpi .ne v289 v2
  let v291 : BitVec 32 := Scalar.extui v290
  let c0_i32_229 : BitVec 32 := 0#32
  let v292 : BitVec 1 := Scalar.cmpi .ne v291 c0_i32_229
  v292

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_227 : BitVec 32 := 4#32
  let v288 : BitVec 32 := Scalar.muli v275 c4_i32_227
  let c1_i32_228 : BitVec 32 := 1#32
  let v289 : BitVec 32 := Scalar.addi v288 c1_i32_228
  ![v289.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_227 : BitVec 32 := 4#32
  let v288 : BitVec 32 := Scalar.muli v275 c4_i32_227
  let c1_i32_228 : BitVec 32 := 1#32
  let v289 : BitVec 32 := Scalar.addi v288 c1_i32_228
  let c0_i32_827 : BitVec 32 := 0#32
  let c0_i32_828 : BitVec 32 := 0#32
  ![v289.toNat, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_233 : BitVec 32 := 4#32
  let v300 : BitVec 32 := Scalar.muli v275 c4_i32_233
  let c2_i32_234 : BitVec 32 := 2#32
  let v301 : BitVec 32 := Scalar.addi v300 c2_i32_234
  let v302 : BitVec 1 := Scalar.cmpi .ne v301 v2
  let v303 : BitVec 32 := Scalar.extui v302
  let c0_i32_235 : BitVec 32 := 0#32
  let v304 : BitVec 1 := Scalar.cmpi .ne v303 c0_i32_235
  v304

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_233 : BitVec 32 := 4#32
  let v300 : BitVec 32 := Scalar.muli v275 c4_i32_233
  let c2_i32_234 : BitVec 32 := 2#32
  let v301 : BitVec 32 := Scalar.addi v300 c2_i32_234
  ![v301.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_233 : BitVec 32 := 4#32
  let v300 : BitVec 32 := Scalar.muli v275 c4_i32_233
  let c2_i32_234 : BitVec 32 := 2#32
  let v301 : BitVec 32 := Scalar.addi v300 c2_i32_234
  let c0_i32_827 : BitVec 32 := 0#32
  let c0_i32_828 : BitVec 32 := 0#32
  ![v301.toNat, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_239 : BitVec 32 := 4#32
  let v312 : BitVec 32 := Scalar.muli v275 c4_i32_239
  let c3_i32_240 : BitVec 32 := 3#32
  let v313 : BitVec 32 := Scalar.addi v312 c3_i32_240
  let v314 : BitVec 1 := Scalar.cmpi .ne v313 v2
  let v315 : BitVec 32 := Scalar.extui v314
  let c0_i32_241 : BitVec 32 := 0#32
  let v316 : BitVec 1 := Scalar.cmpi .ne v315 c0_i32_241
  v316

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_239 : BitVec 32 := 4#32
  let v312 : BitVec 32 := Scalar.muli v275 c4_i32_239
  let c3_i32_240 : BitVec 32 := 3#32
  let v313 : BitVec 32 := Scalar.addi v312 c3_i32_240
  ![v313.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c0_i32_218 : BitVec 32 := 0#32
  let v274 : BitVec 32 := Scalar.addi v273 c0_i32_218
  let c4_i32_219 : BitVec 32 := 4#32
  let v275 : BitVec 32 := Scalar.remsi v274 c4_i32_219
  let c4_i32_239 : BitVec 32 := 4#32
  let v312 : BitVec 32 := Scalar.muli v275 c4_i32_239
  let c3_i32_240 : BitVec 32 := 3#32
  let v313 : BitVec 32 := Scalar.addi v312 c3_i32_240
  let c0_i32_827 : BitVec 32 := 0#32
  let c0_i32_828 : BitVec 32 := 0#32
  ![v313.toNat, 0, 0]
def k0_off15 (d0 : Dev nD) (c0_i32_218 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let v274 : BitVec 32 := Scalar.addi v273 c0_i32_218
  let c4_i32_219 : BitVec 32 := 4#32
  let v275 : BitVec 32 := Scalar.remsi v274 c4_i32_219
  let c4_i32_247 : BitVec 32 := 4#32
  let v325 : BitVec 32 := Scalar.muli v275 c4_i32_247
  let c256_i32_248 : BitVec 32 := 256#32
  let v326 : BitVec 32 := Scalar.muli v325 c256_i32_248
  let v327 : Index := Scalar.indexCast v326
  let c0_249 : Index := 0#32
  ![v327.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_254 : BitVec 32 := 4#32
  let v334 : BitVec 32 := Scalar.muli v333 c4_i32_254
  let c0_i32_255 : BitVec 32 := 0#32
  let v335 : BitVec 32 := Scalar.addi v334 c0_i32_255
  let v336 : BitVec 1 := Scalar.cmpi .ne v335 v2
  let v337 : BitVec 32 := Scalar.extui v336
  let c0_i32_256 : BitVec 32 := 0#32
  let v338 : BitVec 1 := Scalar.cmpi .ne v337 c0_i32_256
  v338

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_254 : BitVec 32 := 4#32
  let v334 : BitVec 32 := Scalar.muli v333 c4_i32_254
  let c0_i32_255 : BitVec 32 := 0#32
  let v335 : BitVec 32 := Scalar.addi v334 c0_i32_255
  ![v335.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_254 : BitVec 32 := 4#32
  let v334 : BitVec 32 := Scalar.muli v333 c4_i32_254
  let c0_i32_255 : BitVec 32 := 0#32
  let v335 : BitVec 32 := Scalar.addi v334 c0_i32_255
  let c0_i32_827 : BitVec 32 := 0#32
  let c0_i32_828 : BitVec 32 := 0#32
  ![v335.toNat, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_261 : BitVec 32 := 4#32
  let v346 : BitVec 32 := Scalar.muli v333 c4_i32_261
  let c1_i32_262 : BitVec 32 := 1#32
  let v347 : BitVec 32 := Scalar.addi v346 c1_i32_262
  let v348 : BitVec 1 := Scalar.cmpi .ne v347 v2
  let v349 : BitVec 32 := Scalar.extui v348
  let c0_i32_263 : BitVec 32 := 0#32
  let v350 : BitVec 1 := Scalar.cmpi .ne v349 c0_i32_263
  v350

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_261 : BitVec 32 := 4#32
  let v346 : BitVec 32 := Scalar.muli v333 c4_i32_261
  let c1_i32_262 : BitVec 32 := 1#32
  let v347 : BitVec 32 := Scalar.addi v346 c1_i32_262
  ![v347.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_261 : BitVec 32 := 4#32
  let v346 : BitVec 32 := Scalar.muli v333 c4_i32_261
  let c1_i32_262 : BitVec 32 := 1#32
  let v347 : BitVec 32 := Scalar.addi v346 c1_i32_262
  let c0_i32_827 : BitVec 32 := 0#32
  let c0_i32_828 : BitVec 32 := 0#32
  ![v347.toNat, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_268 : BitVec 32 := 4#32
  let v358 : BitVec 32 := Scalar.muli v333 c4_i32_268
  let c2_i32_269 : BitVec 32 := 2#32
  let v359 : BitVec 32 := Scalar.addi v358 c2_i32_269
  let v360 : BitVec 1 := Scalar.cmpi .ne v359 v2
  let v361 : BitVec 32 := Scalar.extui v360
  let c0_i32_270 : BitVec 32 := 0#32
  let v362 : BitVec 1 := Scalar.cmpi .ne v361 c0_i32_270
  v362

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_268 : BitVec 32 := 4#32
  let v358 : BitVec 32 := Scalar.muli v333 c4_i32_268
  let c2_i32_269 : BitVec 32 := 2#32
  let v359 : BitVec 32 := Scalar.addi v358 c2_i32_269
  ![v359.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_268 : BitVec 32 := 4#32
  let v358 : BitVec 32 := Scalar.muli v333 c4_i32_268
  let c2_i32_269 : BitVec 32 := 2#32
  let v359 : BitVec 32 := Scalar.addi v358 c2_i32_269
  let c0_i32_827 : BitVec 32 := 0#32
  let c0_i32_828 : BitVec 32 := 0#32
  ![v359.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_275 : BitVec 32 := 4#32
  let v370 : BitVec 32 := Scalar.muli v333 c4_i32_275
  let c3_i32_276 : BitVec 32 := 3#32
  let v371 : BitVec 32 := Scalar.addi v370 c3_i32_276
  let v372 : BitVec 1 := Scalar.cmpi .ne v371 v2
  let v373 : BitVec 32 := Scalar.extui v372
  let c0_i32_277 : BitVec 32 := 0#32
  let v374 : BitVec 1 := Scalar.cmpi .ne v373 c0_i32_277
  v374

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_275 : BitVec 32 := 4#32
  let v370 : BitVec 32 := Scalar.muli v333 c4_i32_275
  let c3_i32_276 : BitVec 32 := 3#32
  let v371 : BitVec 32 := Scalar.addi v370 c3_i32_276
  ![v371.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c1_i32_252 : BitVec 32 := 1#32
  let v332 : BitVec 32 := Scalar.addi v273 c1_i32_252
  let c4_i32_253 : BitVec 32 := 4#32
  let v333 : BitVec 32 := Scalar.remsi v332 c4_i32_253
  let c4_i32_275 : BitVec 32 := 4#32
  let v370 : BitVec 32 := Scalar.muli v333 c4_i32_275
  let c3_i32_276 : BitVec 32 := 3#32
  let v371 : BitVec 32 := Scalar.addi v370 c3_i32_276
  let c0_i32_827 : BitVec 32 := 0#32
  let c0_i32_828 : BitVec 32 := 0#32
  ![v371.toNat, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_294 : BitVec 32 := 4#32
  let v395 : BitVec 32 := Scalar.muli v394 c4_i32_294
  let c0_i32_295 : BitVec 32 := 0#32
  let v396 : BitVec 32 := Scalar.addi v395 c0_i32_295
  let v397 : BitVec 1 := Scalar.cmpi .ne v396 v2
  let v398 : BitVec 32 := Scalar.extui v397
  let c0_i32_296 : BitVec 32 := 0#32
  let v399 : BitVec 1 := Scalar.cmpi .ne v398 c0_i32_296
  v399

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_294 : BitVec 32 := 4#32
  let v395 : BitVec 32 := Scalar.muli v394 c4_i32_294
  let c0_i32_295 : BitVec 32 := 0#32
  let v396 : BitVec 32 := Scalar.addi v395 c0_i32_295
  ![v396.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_294 : BitVec 32 := 4#32
  let v395 : BitVec 32 := Scalar.muli v394 c4_i32_294
  let c0_i32_295 : BitVec 32 := 0#32
  let v396 : BitVec 32 := Scalar.addi v395 c0_i32_295
  let c0_i32_827 : BitVec 32 := 0#32
  let c0_i32_828 : BitVec 32 := 0#32
  ![v396.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_301 : BitVec 32 := 4#32
  let v407 : BitVec 32 := Scalar.muli v394 c4_i32_301
  let c1_i32_302 : BitVec 32 := 1#32
  let v408 : BitVec 32 := Scalar.addi v407 c1_i32_302
  let v409 : BitVec 1 := Scalar.cmpi .ne v408 v2
  let v410 : BitVec 32 := Scalar.extui v409
  let c0_i32_303 : BitVec 32 := 0#32
  let v411 : BitVec 1 := Scalar.cmpi .ne v410 c0_i32_303
  v411

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_301 : BitVec 32 := 4#32
  let v407 : BitVec 32 := Scalar.muli v394 c4_i32_301
  let c1_i32_302 : BitVec 32 := 1#32
  let v408 : BitVec 32 := Scalar.addi v407 c1_i32_302
  ![v408.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_301 : BitVec 32 := 4#32
  let v407 : BitVec 32 := Scalar.muli v394 c4_i32_301
  let c1_i32_302 : BitVec 32 := 1#32
  let v408 : BitVec 32 := Scalar.addi v407 c1_i32_302
  let c0_i32_827 : BitVec 32 := 0#32
  let c0_i32_828 : BitVec 32 := 0#32
  ![v408.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_308 : BitVec 32 := 4#32
  let v419 : BitVec 32 := Scalar.muli v394 c4_i32_308
  let c2_i32_309 : BitVec 32 := 2#32
  let v420 : BitVec 32 := Scalar.addi v419 c2_i32_309
  let v421 : BitVec 1 := Scalar.cmpi .ne v420 v2
  let v422 : BitVec 32 := Scalar.extui v421
  let c0_i32_310 : BitVec 32 := 0#32
  let v423 : BitVec 1 := Scalar.cmpi .ne v422 c0_i32_310
  v423

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_308 : BitVec 32 := 4#32
  let v419 : BitVec 32 := Scalar.muli v394 c4_i32_308
  let c2_i32_309 : BitVec 32 := 2#32
  let v420 : BitVec 32 := Scalar.addi v419 c2_i32_309
  ![v420.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_308 : BitVec 32 := 4#32
  let v419 : BitVec 32 := Scalar.muli v394 c4_i32_308
  let c2_i32_309 : BitVec 32 := 2#32
  let v420 : BitVec 32 := Scalar.addi v419 c2_i32_309
  let c0_i32_827 : BitVec 32 := 0#32
  let c0_i32_828 : BitVec 32 := 0#32
  ![v420.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_315 : BitVec 32 := 4#32
  let v431 : BitVec 32 := Scalar.muli v394 c4_i32_315
  let c3_i32_316 : BitVec 32 := 3#32
  let v432 : BitVec 32 := Scalar.addi v431 c3_i32_316
  let v433 : BitVec 1 := Scalar.cmpi .ne v432 v2
  let v434 : BitVec 32 := Scalar.extui v433
  let c0_i32_317 : BitVec 32 := 0#32
  let v435 : BitVec 1 := Scalar.cmpi .ne v434 c0_i32_317
  v435

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_315 : BitVec 32 := 4#32
  let v431 : BitVec 32 := Scalar.muli v394 c4_i32_315
  let c3_i32_316 : BitVec 32 := 3#32
  let v432 : BitVec 32 := Scalar.addi v431 c3_i32_316
  ![v432.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c2_i32_292 : BitVec 32 := 2#32
  let v393 : BitVec 32 := Scalar.addi v273 c2_i32_292
  let c4_i32_293 : BitVec 32 := 4#32
  let v394 : BitVec 32 := Scalar.remsi v393 c4_i32_293
  let c4_i32_315 : BitVec 32 := 4#32
  let v431 : BitVec 32 := Scalar.muli v394 c4_i32_315
  let c3_i32_316 : BitVec 32 := 3#32
  let v432 : BitVec 32 := Scalar.addi v431 c3_i32_316
  let c0_i32_827 : BitVec 32 := 0#32
  let c0_i32_828 : BitVec 32 := 0#32
  ![v432.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_334 : BitVec 32 := 4#32
  let v456 : BitVec 32 := Scalar.muli v455 c4_i32_334
  let c0_i32_335 : BitVec 32 := 0#32
  let v457 : BitVec 32 := Scalar.addi v456 c0_i32_335
  let v458 : BitVec 1 := Scalar.cmpi .ne v457 v2
  let v459 : BitVec 32 := Scalar.extui v458
  let c0_i32_336 : BitVec 32 := 0#32
  let v460 : BitVec 1 := Scalar.cmpi .ne v459 c0_i32_336
  v460

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_334 : BitVec 32 := 4#32
  let v456 : BitVec 32 := Scalar.muli v455 c4_i32_334
  let c0_i32_335 : BitVec 32 := 0#32
  let v457 : BitVec 32 := Scalar.addi v456 c0_i32_335
  ![v457.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_334 : BitVec 32 := 4#32
  let v456 : BitVec 32 := Scalar.muli v455 c4_i32_334
  let c0_i32_335 : BitVec 32 := 0#32
  let v457 : BitVec 32 := Scalar.addi v456 c0_i32_335
  let c0_i32_827 : BitVec 32 := 0#32
  let c0_i32_828 : BitVec 32 := 0#32
  ![v457.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_341 : BitVec 32 := 4#32
  let v468 : BitVec 32 := Scalar.muli v455 c4_i32_341
  let c1_i32_342 : BitVec 32 := 1#32
  let v469 : BitVec 32 := Scalar.addi v468 c1_i32_342
  let v470 : BitVec 1 := Scalar.cmpi .ne v469 v2
  let v471 : BitVec 32 := Scalar.extui v470
  let c0_i32_343 : BitVec 32 := 0#32
  let v472 : BitVec 1 := Scalar.cmpi .ne v471 c0_i32_343
  v472

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_341 : BitVec 32 := 4#32
  let v468 : BitVec 32 := Scalar.muli v455 c4_i32_341
  let c1_i32_342 : BitVec 32 := 1#32
  let v469 : BitVec 32 := Scalar.addi v468 c1_i32_342
  ![v469.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_341 : BitVec 32 := 4#32
  let v468 : BitVec 32 := Scalar.muli v455 c4_i32_341
  let c1_i32_342 : BitVec 32 := 1#32
  let v469 : BitVec 32 := Scalar.addi v468 c1_i32_342
  let c0_i32_827 : BitVec 32 := 0#32
  let c0_i32_828 : BitVec 32 := 0#32
  ![v469.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_348 : BitVec 32 := 4#32
  let v480 : BitVec 32 := Scalar.muli v455 c4_i32_348
  let c2_i32_349 : BitVec 32 := 2#32
  let v481 : BitVec 32 := Scalar.addi v480 c2_i32_349
  let v482 : BitVec 1 := Scalar.cmpi .ne v481 v2
  let v483 : BitVec 32 := Scalar.extui v482
  let c0_i32_350 : BitVec 32 := 0#32
  let v484 : BitVec 1 := Scalar.cmpi .ne v483 c0_i32_350
  v484

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_348 : BitVec 32 := 4#32
  let v480 : BitVec 32 := Scalar.muli v455 c4_i32_348
  let c2_i32_349 : BitVec 32 := 2#32
  let v481 : BitVec 32 := Scalar.addi v480 c2_i32_349
  ![v481.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_348 : BitVec 32 := 4#32
  let v480 : BitVec 32 := Scalar.muli v455 c4_i32_348
  let c2_i32_349 : BitVec 32 := 2#32
  let v481 : BitVec 32 := Scalar.addi v480 c2_i32_349
  let c0_i32_827 : BitVec 32 := 0#32
  let c0_i32_828 : BitVec 32 := 0#32
  ![v481.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_355 : BitVec 32 := 4#32
  let v492 : BitVec 32 := Scalar.muli v455 c4_i32_355
  let c3_i32_356 : BitVec 32 := 3#32
  let v493 : BitVec 32 := Scalar.addi v492 c3_i32_356
  let v494 : BitVec 1 := Scalar.cmpi .ne v493 v2
  let v495 : BitVec 32 := Scalar.extui v494
  let c0_i32_357 : BitVec 32 := 0#32
  let v496 : BitVec 1 := Scalar.cmpi .ne v495 c0_i32_357
  v496

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_355 : BitVec 32 := 4#32
  let v492 : BitVec 32 := Scalar.muli v455 c4_i32_355
  let c3_i32_356 : BitVec 32 := 3#32
  let v493 : BitVec 32 := Scalar.addi v492 c3_i32_356
  ![v493.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_217 : BitVec 32 := 4#32
  let v273 : BitVec 32 := Scalar.divsi v2 c4_i32_217
  let c3_i32_332 : BitVec 32 := 3#32
  let v454 : BitVec 32 := Scalar.addi v273 c3_i32_332
  let c4_i32_333 : BitVec 32 := 4#32
  let v455 : BitVec 32 := Scalar.remsi v454 c4_i32_333
  let c4_i32_355 : BitVec 32 := 4#32
  let v492 : BitVec 32 := Scalar.muli v455 c4_i32_355
  let c3_i32_356 : BitVec 32 := 3#32
  let v493 : BitVec 32 := Scalar.addi v492 c3_i32_356
  let c0_i32_827 : BitVec 32 := 0#32
  let c0_i32_828 : BitVec 32 := 0#32
  ![v493.toNat, 0, 0]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v523 : Index := Scalar.indexCast v2
  let c0_375 : Index := 0#32
  let c0_376 : Index := 0#32
  ![v523.toNat, 0, 0]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_382 : BitVec 32 := 0#32
  let c0_i32_383 : BitVec 32 := 0#32
  ![v2.toNat, 0, 0]
def k0_dev31 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_377 : BitVec 32 := 1#32
  let v527 : BitVec 32 := Scalar.addi v2 c1_i32_377
  let c16_i32_378 : BitVec 32 := 16#32
  let v528 : BitVec 32 := Scalar.remsi v527 c16_i32_378
  let c1_i32_380 : BitVec 32 := 1#32
  let v529 : BitVec 32 := Scalar.muli v528 c1_i32_380
  let v530 : BitVec 32 := Scalar.addi c0_i32_381 v529
  v530.toNat
def k0_dev32 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_386 : BitVec 32 := 2#32
  let v539 : BitVec 32 := Scalar.addi v2 c2_i32_386
  let c16_i32_387 : BitVec 32 := 16#32
  let v540 : BitVec 32 := Scalar.remsi v539 c16_i32_387
  let c1_i32_389 : BitVec 32 := 1#32
  let v541 : BitVec 32 := Scalar.muli v540 c1_i32_389
  let v542 : BitVec 32 := Scalar.addi c0_i32_390 v541
  v542.toNat
def k0_dev33 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_395 : BitVec 32 := 3#32
  let v551 : BitVec 32 := Scalar.addi v2 c3_i32_395
  let c16_i32_396 : BitVec 32 := 16#32
  let v552 : BitVec 32 := Scalar.remsi v551 c16_i32_396
  let c1_i32_398 : BitVec 32 := 1#32
  let v553 : BitVec 32 := Scalar.muli v552 c1_i32_398
  let v554 : BitVec 32 := Scalar.addi c0_i32_399 v553
  v554.toNat
def k0_dev34 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_404 : BitVec 32 := 4#32
  let v563 : BitVec 32 := Scalar.addi v2 c4_i32_404
  let c16_i32_405 : BitVec 32 := 16#32
  let v564 : BitVec 32 := Scalar.remsi v563 c16_i32_405
  let c1_i32_407 : BitVec 32 := 1#32
  let v565 : BitVec 32 := Scalar.muli v564 c1_i32_407
  let v566 : BitVec 32 := Scalar.addi c0_i32_408 v565
  v566.toNat
def k0_dev35 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_413 : BitVec 32 := 5#32
  let v575 : BitVec 32 := Scalar.addi v2 c5_i32_413
  let c16_i32_414 : BitVec 32 := 16#32
  let v576 : BitVec 32 := Scalar.remsi v575 c16_i32_414
  let c1_i32_416 : BitVec 32 := 1#32
  let v577 : BitVec 32 := Scalar.muli v576 c1_i32_416
  let v578 : BitVec 32 := Scalar.addi c0_i32_417 v577
  v578.toNat
def k0_dev36 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_422 : BitVec 32 := 6#32
  let v587 : BitVec 32 := Scalar.addi v2 c6_i32_422
  let c16_i32_423 : BitVec 32 := 16#32
  let v588 : BitVec 32 := Scalar.remsi v587 c16_i32_423
  let c1_i32_425 : BitVec 32 := 1#32
  let v589 : BitVec 32 := Scalar.muli v588 c1_i32_425
  let v590 : BitVec 32 := Scalar.addi c0_i32_426 v589
  v590.toNat
def k0_dev37 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_431 : BitVec 32 := 7#32
  let v599 : BitVec 32 := Scalar.addi v2 c7_i32_431
  let c16_i32_432 : BitVec 32 := 16#32
  let v600 : BitVec 32 := Scalar.remsi v599 c16_i32_432
  let c1_i32_434 : BitVec 32 := 1#32
  let v601 : BitVec 32 := Scalar.muli v600 c1_i32_434
  let v602 : BitVec 32 := Scalar.addi c0_i32_435 v601
  v602.toNat
def k0_dev38 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_440 : BitVec 32 := 8#32
  let v611 : BitVec 32 := Scalar.addi v2 c8_i32_440
  let c16_i32_441 : BitVec 32 := 16#32
  let v612 : BitVec 32 := Scalar.remsi v611 c16_i32_441
  let c1_i32_443 : BitVec 32 := 1#32
  let v613 : BitVec 32 := Scalar.muli v612 c1_i32_443
  let v614 : BitVec 32 := Scalar.addi c0_i32_444 v613
  v614.toNat
def k0_dev39 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_449 : BitVec 32 := 9#32
  let v623 : BitVec 32 := Scalar.addi v2 c9_i32_449
  let c16_i32_450 : BitVec 32 := 16#32
  let v624 : BitVec 32 := Scalar.remsi v623 c16_i32_450
  let c1_i32_452 : BitVec 32 := 1#32
  let v625 : BitVec 32 := Scalar.muli v624 c1_i32_452
  let v626 : BitVec 32 := Scalar.addi c0_i32_453 v625
  v626.toNat
def k0_dev40 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_458 : BitVec 32 := 10#32
  let v635 : BitVec 32 := Scalar.addi v2 c10_i32_458
  let c16_i32_459 : BitVec 32 := 16#32
  let v636 : BitVec 32 := Scalar.remsi v635 c16_i32_459
  let c1_i32_461 : BitVec 32 := 1#32
  let v637 : BitVec 32 := Scalar.muli v636 c1_i32_461
  let v638 : BitVec 32 := Scalar.addi c0_i32_462 v637
  v638.toNat
def k0_dev41 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_467 : BitVec 32 := 11#32
  let v647 : BitVec 32 := Scalar.addi v2 c11_i32_467
  let c16_i32_468 : BitVec 32 := 16#32
  let v648 : BitVec 32 := Scalar.remsi v647 c16_i32_468
  let c1_i32_470 : BitVec 32 := 1#32
  let v649 : BitVec 32 := Scalar.muli v648 c1_i32_470
  let v650 : BitVec 32 := Scalar.addi c0_i32_471 v649
  v650.toNat
def k0_dev42 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_476 : BitVec 32 := 12#32
  let v659 : BitVec 32 := Scalar.addi v2 c12_i32_476
  let c16_i32_477 : BitVec 32 := 16#32
  let v660 : BitVec 32 := Scalar.remsi v659 c16_i32_477
  let c1_i32_479 : BitVec 32 := 1#32
  let v661 : BitVec 32 := Scalar.muli v660 c1_i32_479
  let v662 : BitVec 32 := Scalar.addi c0_i32_480 v661
  v662.toNat
def k0_dev43 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_485 : BitVec 32 := 13#32
  let v671 : BitVec 32 := Scalar.addi v2 c13_i32_485
  let c16_i32_486 : BitVec 32 := 16#32
  let v672 : BitVec 32 := Scalar.remsi v671 c16_i32_486
  let c1_i32_488 : BitVec 32 := 1#32
  let v673 : BitVec 32 := Scalar.muli v672 c1_i32_488
  let v674 : BitVec 32 := Scalar.addi c0_i32_489 v673
  v674.toNat
def k0_dev44 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_494 : BitVec 32 := 14#32
  let v683 : BitVec 32 := Scalar.addi v2 c14_i32_494
  let c16_i32_495 : BitVec 32 := 16#32
  let v684 : BitVec 32 := Scalar.remsi v683 c16_i32_495
  let c1_i32_497 : BitVec 32 := 1#32
  let v685 : BitVec 32 := Scalar.muli v684 c1_i32_497
  let v686 : BitVec 32 := Scalar.addi c0_i32_498 v685
  v686.toNat
def k0_dev45 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_503 : BitVec 32 := 15#32
  let v695 : BitVec 32 := Scalar.addi v2 c15_i32_503
  let c16_i32_504 : BitVec 32 := 16#32
  let v696 : BitVec 32 := Scalar.remsi v695 c16_i32_504
  let c1_i32_506 : BitVec 32 := 1#32
  let v697 : BitVec 32 := Scalar.muli v696 c1_i32_506
  let v698 : BitVec 32 := Scalar.addi c0_i32_507 v697
  v698.toNat
def k0_off42 (d0 : Dev nD) (c1_i32_512 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v707 : BitVec 32 := Scalar.addi v2 c1_i32_512
  let c16_i32_513 : BitVec 32 := 16#32
  let v708 : BitVec 32 := Scalar.remsi v707 c16_i32_513
  ![v708.toNat]
def k0_off43 (d0 : Dev nD) (c1_i32_512 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v707 : BitVec 32 := Scalar.addi v2 c1_i32_512
  let c16_i32_513 : BitVec 32 := 16#32
  let v708 : BitVec 32 := Scalar.remsi v707 c16_i32_513
  let c0_i32_517 : BitVec 32 := 0#32
  let c0_i32_518 : BitVec 32 := 0#32
  ![v708.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Ideal.Flat.lean ====
/-
The kernel body of one device written as loops.

The printed body is one long straight line: fifteen entry signals, fifteen row-block copies, sixteen guarded
waits, and so on, cut into parts of equal length.  Here each repeated statement is one definition with an index,
and `body_eq` says that the printed body is the sequence of loops over these definitions.
-/
module

public import proofs.«01_k».proof.Proof.Gen.KernelIdeal.Skeleton

@[expose] public section

noncomputable section

namespace Cert.KernelIdeal.Body

open Cert.KernelIdeal Cert.KernelIdeal.Gen
open Idealize.ShloMosaic Idealize.ShloMosaic.TcCoe Idealize.SL.Sem

variable {F : FTy → Type} [FloatOps F]

/-- A program of the kernel body that returns nothing. -/
abbrev Pr : Type 1 := Prog (TpuEff nD τ sig (Elt F) Λ₀ .tc) PUnit

/-- `p 0`, then `p 1`, …, then `p (n - 1)`. -/
def loop : (n : ℕ) → (Fin n → Pr (F := F)) → Pr (F := F)
  | 0, _ => pure ⟨⟩
  | n + 1, p => p 0 >>= fun _ => loop n fun i => p i.succ

/-- The staged block of `x`, the staged `w`, the staged result. -/
abbrev xM : Memref sig .tc .vmem S4096x256 .f32 := Memref.whole cc0_stg0_0
abbrev wM : Memref sig .tc .vmem S4096x2048 .f32 := Memref.whole cc0_stg1_0
abbrev oM : Memref sig .tc .vmem S256x2048 .f32 := Memref.whole cc0_stg2_0
/-- The block of `x` in bf16, the sixteen received row blocks, the unpacked group, the sixteen maxima. -/
abbrev bM : Memref sig .tc .vmem S4096x256 .bf16 := Memref.whole cc0_scratch0
abbrev rM : Memref sig .tc .vmem S16x256x256 .bf16 := Memref.whole cc0_scratch1
abbrev sM : Memref sig .tc .vmem S256x1024 .f32 := Memref.whole cc0_scratch2
abbrev aM : Memref sig .tc .vmem S16x8x128 .f32 := Memref.whole cc0_scratch3

/-- The runtime's barrier semaphore. -/
abbrev barS : Sem sig := (SemArray.scalar (sig.barrier 0 rfl) : Sems sig S_).sem

/-- One semaphore of an array of sixteen. -/
abbrev semOf (a : DmaSems sig S16) (off : Fin 1 → ℕ) (h : ∀ i, off i + S1.size i ≤ S16.size i) : DmaSem sig :=
  ((a.slice (Rect.unit (s := S16) off S1.size h)).squeeze S_ squeezes_S1_S_).sem

/-- A block of rows of the bf16 copy of `x`. -/
abbrev bAt (off : Fin 2 → ℕ) (h : ∀ i, off i + S256x256.size i ≤ S4096x256.size i) : Memref sig .tc .vmem S256x256 .bf16 :=
  bM.slice (Rect.unit (s := S4096x256) off S256x256.size h) (fun _ => rfl)
/-- A slot of the received row blocks. -/
abbrev rAt (off : Fin 3 → ℕ) (h : ∀ i, off i + S1x256x256.size i ≤ S16x256x256.size i) : Memref sig .tc .vmem S256x256 .bf16 :=
  (rM.slice (Rect.unit (s := S16x256x256) off S1x256x256.size h) (fun _ => rfl)).squeeze S256x256 squeezes_S1x256x256_S256x256
/-- A slot of the maxima. -/
abbrev aAt (off : Fin 3 → ℕ) (h : ∀ i, off i + S1x8x128.size i ≤ S16x8x128.size i) : Memref sig .tc .vmem S8x128 .f32 :=
  (aM.slice (Rect.unit (s := S16x8x128) off S1x8x128.size h) (fun _ => rfl)).squeeze S8x128 squeezes_S1x8x128_S8x128

/-- The device that the `k`-th entry signal goes to. -/
def barDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The device that the `k`-th copy of a row block goes to. -/
def xDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
/-- The device that the `k`-th copy of the local maximum goes to. -/
def amaxDev (c : Dev nD) : Fin 15 → Dev nD :=
  ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]

theorem inbSem (k : Fin 15) : ∀ i, (![1 + k.val] : Fin 1 → ℕ) i + S1.size i ≤ S16.size i := by
  revert k; decide

theorem inbCol (r : Fin 4) : ∀ i, (![0, 256 * r.val] : Fin 2 → ℕ) i + S256x256.size i ≤ S256x1024.size i := by
  revert r; decide

/-- The block of `x` is rounded to bf16. -/
def narrow : Pr (F := F) := do
  let v ← Prog.lift (.load xM (Rect.unit (s := S4096x256) ![0, 0] S4096x256.size inb_S4096x256_S4096x256_0_0).toLoadRect (View.loadsAt_vmem h_S4096x256))
  let _ ← Prog.lift (.load bM (Rect.unit (s := S4096x256) ![0, 0] S4096x256.size inb_S4096x256_S4096x256_0_0).toLoadRect (View.loadsAt_vmem h_S4096x256))
  Prog.lift (.store bM (Rect.unit (s := S4096x256) ![0, 0] S4096x256.size inb_S4096x256_S4096x256_0_0) (k0_pay1 v) Finset.univ (View.stores_vmem h_S4096x256 ((Memref.isWhole_whole _).storeExact_slice rfl _ packedbf16_S4096x256_S4096x256_0_0) (fun _ => rfl)) (.inl rfl))

/-- The `k`-th entry signal. -/
def signal (c : Dev nD) (k : Fin 15) : Pr (F := F) := semSignalWord (barDev c k) barS 1#32

/-- The entry barrier: all fifteen others have signalled. -/
def gather : Pr (F := F) := semWaitWord barS 15#32

/-- The `k`-th copy of a row block of the bf16 copy of `x` into slot `c` of its destination. -/
def sendX (c : Dev nD) (k : Fin 15) : Pr (F := F) :=
  Prog.lift (.enqueueDma (bAt (k0_off3 c (BitVec.ofNat 32 (1 + k.val))) (k0_off3_inb c k))
    (.remote (Dev.tc (xDev c k)) (rAt (k0_off2 c) (k0_off2_inb c)) (.dma (semOf cc0_scratch4 ![1 + k.val] (inbSem k))))
    (.dma (semOf cc0_scratch5 (k0_off1 c) (k0_off1_inb c)))
    ((Memref.isWhole_whole _).wordExact_slice rfl _ (k0_off3_wordsbf16 c k)) (((Memref.isWhole_whole _).wordExact_slice rfl _ (k0_off2_wordsbf16 c)).reshape _ _) ⟨⟨rfl, Or.inl rfl⟩, trivial⟩)

/-- The device's own row block, moved within the device. -/
def keepOwn (c : Dev nD) : Pr (F := F) := do
  let v ← Prog.lift (.load bM (Rect.unit (s := S4096x256) (k0_off4 c) S256x256.size (k0_off4_inb c)).toLoadRect (View.loadsAt_vmem h_S256x256))
  let _ ← Prog.lift (.load rM (Rect.unit (s := S16x256x256) (k0_off5 c) S1x256x256.size (k0_off5_inb c)).toLoadRect (View.loadsAt_vmem h_S1x256x256))
  Prog.lift (.store rM (Rect.unit (s := S16x256x256) (k0_off5 c) S1x256x256.size (k0_off5_inb c)) (k0_pay3 (k0_pay2 v)) Finset.univ (View.stores_vmem h_S1x256x256 ((Memref.isWhole_whole _).storeExact_slice rfl _ (k0_off5_packedbf16 c)) (fun _ => rfl)) (.inl rfl))

/-- The operation `w` if `b` holds, nothing otherwise. -/
def guarded (b : Prop) [Decidable b] (w : b → TpuEff nD τ sig (Elt F) Λ₀ .tc PUnit) : Pr (F := F) :=
  if h : b then Prog.op (w h) fun _ => Prog.ret ⟨⟩ else Prog.ret ⟨⟩

/-- A guarded operation followed by the same program in both cases is the guarded operation, then that program. -/
theorem guarded_then {α : Type} (b : Prop) [Decidable b] (w : b → TpuEff nD τ sig (Elt F) Λ₀ .tc PUnit)
    (K : Prog (TpuEff nD τ sig (Elt F) Λ₀ .tc) α) :
    (if h : b then Prog.op (w h) fun _ => K else K) = (guarded b w >>= fun _ => K) := by
  unfold guarded; split <;> rfl

/-- What the body writes at one guarded wait: the guard, the semaphore's offset, the slot's offset, and that they are in range. -/
structure Guard where
  on : BitVec 1
  sem : Fin 1 → ℕ
  semIn : on = 1#1 → ∀ i, sem i + S1.size i ≤ S16.size i
  slot : Fin 3 → ℕ
  slotIn : on = 1#1 → ∀ i, slot i + S1x256x256.size i ≤ S16x256x256.size i
  words : ∀ h : on = 1#1, (Rect.unit (s := S16x256x256) slot S1x256x256.size (slotIn h)).WholeWords (EltTy.packing .bf16)

/-- The guards of group 0. -/
def guards0 (c : Dev nD) : Fin 4 → Guard := ![
  ⟨k0_cond1 c, k0_off6 c, k0_off6_inb c, k0_off7 c, k0_off7_inb c, k0_off7_wordsbf16 c⟩,
  ⟨k0_cond2 c, k0_off9 c, k0_off9_inb c, k0_off10 c, k0_off10_inb c, k0_off10_wordsbf16 c⟩,
  ⟨k0_cond3 c, k0_off11 c, k0_off11_inb c, k0_off12 c, k0_off12_inb c, k0_off12_wordsbf16 c⟩,
  ⟨k0_cond4 c, k0_off13 c, k0_off13_inb c, k0_off14 c, k0_off14_inb c, k0_off14_wordsbf16 c⟩]
/-- The guards of group 1. -/
def guards1 (c : Dev nD) : Fin 4 → Guard := ![
  ⟨k0_cond5 c, k0_off16 c, k0_off16_inb c, k0_off17 c, k0_off17_inb c, k0_off17_wordsbf16 c⟩,
  ⟨k0_cond6 c, k0_off18 c, k0_off18_inb c, k0_off19 c, k0_off19_inb c, k0_off19_wordsbf16 c⟩,
  ⟨k0_cond7 c, k0_off20 c, k0_off20_inb c, k0_off21 c, k0_off21_inb c, k0_off21_wordsbf16 c⟩,
  ⟨k0_cond8 c, k0_off22 c, k0_off22_inb c, k0_off23 c, k0_off23_inb c, k0_off23_wordsbf16 c⟩]
/-- The guards of group 2. -/
def guards2 (c : Dev nD) : Fin 4 → Guard := ![
  ⟨k0_cond9 c, k0_off24 c, k0_off24_inb c, k0_off25 c, k0_off25_inb c, k0_off25_wordsbf16 c⟩,
  ⟨k0_cond10 c, k0_off26 c, k0_off26_inb c, k0_off27 c, k0_off27_inb c, k0_off27_wordsbf16 c⟩,
  ⟨k0_cond11 c, k0_off28 c, k0_off28_inb c, k0_off29 c, k0_off29_inb c, k0_off29_wordsbf16 c⟩,
  ⟨k0_cond12 c, k0_off30 c, k0_off30_inb c, k0_off31 c, k0_off31_inb c, k0_off31_wordsbf16 c⟩]
/-- The guards of group 3. -/
def guards3 (c : Dev nD) : Fin 4 → Guard := ![
  ⟨k0_cond13 c, k0_off32 c, k0_off32_inb c, k0_off33 c, k0_off33_inb c, k0_off33_wordsbf16 c⟩,
  ⟨k0_cond14 c, k0_off34 c, k0_off34_inb c, k0_off35 c, k0_off35_inb c, k0_off35_wordsbf16 c⟩,
  ⟨k0_cond15 c, k0_off36 c, k0_off36_inb c, k0_off37 c, k0_off37_inb c, k0_off37_wordsbf16 c⟩,
  ⟨k0_cond16 c, k0_off38 c, k0_off38_inb c, k0_off39 c, k0_off39_inb c, k0_off39_wordsbf16 c⟩]

/-- The wait for one row block, if its guard says that it comes from another device. -/
def await (g : Guard) : Pr (F := F) :=
  guarded (g.on = 1#1) fun h =>
    .waitDma2 (semOf cc0_scratch5 g.sem (g.semIn h)) (rAt g.slot (g.slotIn h)) (rAt g.slot (g.slotIn h)) (((Memref.isWhole_whole _).wordExact_slice rfl _ (g.words h)).reshape _ _) (((Memref.isWhole_whole _).wordExact_slice rfl _ (g.words h)).reshape _ _)

/-- A row block widened to f32. -/
def widen (v : Vec F S1x256x256 .bf16) : FVec F S256x256 .f32 := k0_pay4 v

/-- Row block `r` of group `j` under the guard `g`: wait for it, widen it, put it into its columns of the unpacked group. -/
def take (c : Dev nD) (g : Guard) (j r : Fin 4) : Pr (F := F) := do
  await g
  let v ← Prog.lift (.load rM (Rect.unit (s := S16x256x256) (k0_off8 c (BitVec.ofNat 32 j.val) (BitVec.ofNat 32 r.val)) S1x256x256.size (k0_off8_inb c j r)).toLoadRect (View.loadsAt_vmem h_S1x256x256))
  let _ ← Prog.lift (.load sM (Rect.unit (s := S256x1024) ![0, 256 * r.val] S256x256.size (inbCol r)).toLoadRect (View.loadsAt_vmem h_S256x256))
  Prog.lift (.store sM (Rect.unit (s := S256x1024) ![0, 256 * r.val] S256x256.size (inbCol r)) (widen v) Finset.univ (View.stores_vmem_bits_univ h_S256x256 rfl) (.inl rfl))

/-- The product of the unpacked group and its rows of `w`, added into the result. -/
def mulAdd2 (c : Dev nD) (j : Fin 4) : Pr (F := F) := do
  let s ← Prog.lift (.load sM (Rect.unit (s := S256x1024) ![0, 0] S256x1024.size inb_S256x1024_S256x1024_0_0).toLoadRect (View.loadsAt_vmem h_S256x1024))
  let w ← Prog.lift (.load wM (Rect.unit (s := S4096x2048) (k0_off15 c (BitVec.ofNat 32 j.val)) S1024x2048.size (k0_off15_inb c j)).toLoadRect (View.loadsAt_vmem h_S1024x2048))
  let y ← Prog.lift (.load oM (Rect.unit (s := S256x2048) ![0, 0] S256x2048.size inb_S256x2048_S256x2048_0_0).toLoadRect (View.loadsAt_vmem h_S256x2048))
  let _ ← Prog.lift (.load oM (Rect.unit (s := S256x2048) ![0, 0] S256x2048.size inb_S256x2048_S256x2048_0_0).toLoadRect (View.loadsAt_vmem h_S256x2048))
  Prog.lift (.store oM (Rect.unit (s := S256x2048) ![0, 0] S256x2048.size inb_S256x2048_S256x2048_0_0) (k0_pay13 s w y) Finset.univ (View.stores_vmem_bits_univ h_S256x2048 rfl) (.inl rfl))

/-- The first group: the accumulator is overwritten. -/
def mulFirst (c : Dev nD) : Pr (F := F) := do
  let s ← Prog.lift (.load sM (Rect.unit (s := S256x1024) ![0, 0] S256x1024.size inb_S256x1024_S256x1024_0_0).toLoadRect (View.loadsAt_vmem h_S256x1024))
  let w ← Prog.lift (.load wM (Rect.unit (s := S4096x2048) (k0_off15 c 0#32) S1024x2048.size (k0_off15_inb c 0)).toLoadRect (View.loadsAt_vmem h_S1024x2048))
  let _ ← Prog.lift (.load oM (Rect.unit (s := S256x2048) ![0, 0] S256x2048.size inb_S256x2048_S256x2048_0_0).toLoadRect (View.loadsAt_vmem h_S256x2048))
  Prog.lift (.store oM (Rect.unit (s := S256x2048) ![0, 0] S256x2048.size inb_S256x2048_S256x2048_0_0) (k0_pay8 s w) Finset.univ (View.stores_vmem_bits_univ h_S256x2048 rfl) (.inl rfl))

/-- The largest absolute value of the result goes into the device's own slot of the maxima. -/
def localMax (c : Dev nD) : Pr (F := F) := do
  let y ← Prog.lift (.load oM (Rect.unit (s := S256x2048) ![0, 0] S256x2048.size inb_S256x2048_S256x2048_0_0).toLoadRect (View.loadsAt_vmem h_S256x2048))
  let _ ← Prog.lift (.load aM (Rect.unit (s := S16x8x128) (k0_off40 c) S1x8x128.size (k0_off40_inb c)).toLoadRect (View.loadsAt_vmem h_S1x8x128))
  Prog.lift (.store aM (Rect.unit (s := S16x8x128) (k0_off40 c) S1x8x128.size (k0_off40_inb c)) (k0_pay25 y) Finset.univ (View.stores_vmem_bits_univ h_S1x8x128 rfl) (.inl rfl))

/-- The `k`-th copy of the own maximum into slot `c` of another device. -/
def sendA (c : Dev nD) (k : Fin 15) : Pr (F := F) :=
  Prog.lift (.enqueueDma (aAt (k0_off41 c) (k0_off41_inb c))
    (.remote (Dev.tc (amaxDev c k)) (aAt (k0_off41 c) (k0_off41_inb c)) (.dma (semOf cc0_scratch6 ![1 + k.val] (inbSem k))))
    (.dma (semOf cc0_scratch7 (k0_off1 c) (k0_off1_inb c)))
    ((View.wordExact_bits rfl).reshape _ _) ((View.wordExact_bits rfl).reshape _ _) ⟨⟨rfl, Or.inl rfl⟩, trivial⟩)

/-- The wait for the `k`-th maximum of another device. -/
def recvA (c : Dev nD) (k : Fin 15) : Pr (F := F) :=
  Prog.lift (.waitDma2 (semOf cc0_scratch7 (k0_off42 c (BitVec.ofNat 32 (1 + k.val))) (k0_off42_inb c k))
    (aAt (k0_off43 c (BitVec.ofNat 32 (1 + k.val))) (k0_off43_inb c k)) (aAt (k0_off43 c (BitVec.ofNat 32 (1 + k.val))) (k0_off43_inb c k))
    ((View.wordExact_bits rfl).reshape _ _) ((View.wordExact_bits rfl).reshape _ _))

/-- The result quantised by the largest of the sixteen maxima, and scaled back. -/
def quantise : Pr (F := F) := do
  let a ← Prog.lift (.load aM (Rect.unit (s := S16x8x128) ![0, 0, 0] S16x8x128.size inb_S16x8x128_S16x8x128_0_0_0).toLoadRect (View.loadsAt_vmem h_S16x8x128))
  let y ← Prog.lift (.load oM (Rect.unit (s := S256x2048) ![0, 0] S256x2048.size inb_S256x2048_S256x2048_0_0).toLoadRect (View.loadsAt_vmem h_S256x2048))
  let _ ← Prog.lift (.load oM (Rect.unit (s := S256x2048) ![0, 0] S256x2048.size inb_S256x2048_S256x2048_0_0).toLoadRect (View.loadsAt_vmem h_S256x2048))
  Prog.lift (.store oM (Rect.unit (s := S256x2048) ![0, 0] S256x2048.size inb_S256x2048_S256x2048_0_0) (k0_pay26 a y) Finset.univ (View.stores_vmem_bits_univ h_S256x2048 rfl) (.inl rfl))

/-- The wait for the `k`-th row-block copy to have left. -/
def drainX (c : Dev nD) (k : Fin 15) : Pr (F := F) :=
  Prog.lift (.waitDma2 (semOf cc0_scratch4 ![1 + k.val] (inbSem k)) (rAt (k0_off2 c) (k0_off2_inb c)) (bAt (k0_off3 c (BitVec.ofNat 32 (1 + k.val))) (k0_off3_inb c k))
    (((Memref.isWhole_whole _).wordExact_slice rfl _ (k0_off2_wordsbf16 c)).reshape _ _) ((Memref.isWhole_whole _).wordExact_slice rfl _ (k0_off3_wordsbf16 c k)))

/-- The wait for the `k`-th copy of the own maximum to have left. -/
def drainA (c : Dev nD) (k : Fin 15) : Pr (F := F) :=
  Prog.lift (.waitDma2 (semOf cc0_scratch6 ![1 + k.val] (inbSem k)) (aAt (k0_off41 c) (k0_off41_inb c)) (aAt (k0_off41 c) (k0_off41_inb c))
    ((View.wordExact_bits rfl).reshape _ _) ((View.wordExact_bits rfl).reshape _ _))

/-- The body of device `c` in loops. -/
def flat (c : Dev nD) : Pr (F := F) := do
  narrow
  loop 15 (signal c)
  gather
  loop 15 (sendX c)
  keepOwn c
  loop 4 fun r => take c (guards0 c r) 0 r
  mulFirst c
  loop 4 fun r => take c (guards1 c r) 1 r
  mulAdd2 c 1
  loop 4 fun r => take c (guards2 c r) 2 r
  mulAdd2 c 2
  loop 4 fun r => take c (guards3 c r) 3 r
  mulAdd2 c 3
  localMax c
  loop 15 (sendA c)
  loop 15 (recvA c)
  quantise
  loop 15 (drainX c)
  loop 15 (drainA c)

/-- Two programs that begin with the same operation are equal if they continue equally. -/
theorem op_congr {α β : Type} {e : TpuEff nD τ sig (Elt F) Λ₀ .tc β} {p q : β → Prog (TpuEff nD τ sig (Elt F) Λ₀ .tc) α}
    (h : ∀ x, p x = q x) : Prog.op e p = Prog.op e q := congrArg _ (funext h)

/-- Two programs that begin with the same program are equal if they continue equally. -/
theorem bind_congr {α β : Type} {e : Prog (TpuEff nD τ sig (Elt F) Λ₀ .tc) β} {p q : β → Prog (TpuEff nD τ sig (Elt F) Λ₀ .tc) α}
    (h : ∀ x, p x = q x) : (e >>= p) = (e >>= q) := congrArg _ (funext h)

attribute [local irreducible] k0_cond1 k0_cond2 k0_cond3 k0_cond4 k0_cond5 k0_cond6 k0_cond7 k0_cond8 k0_cond9 k0_cond10 k0_cond11 k0_cond12 k0_cond13
  k0_cond14 k0_cond15 k0_cond16 k0_off1 k0_off2 k0_off3 k0_off4 k0_off5 k0_off6 k0_off7 k0_off8 k0_off9 k0_off10 k0_off11 k0_off12 k0_off13 k0_off14
  k0_off15 k0_off16 k0_off17 k0_off18 k0_off19 k0_off20 k0_off21 k0_off22 k0_off23 k0_off24 k0_off25 k0_off26 k0_off27 k0_off28 k0_off29 k0_off30
  k0_off31 k0_off32 k0_off33 k0_off34 k0_off35 k0_off36 k0_off37 k0_off38 k0_off39 k0_off40 k0_off41 k0_off42 k0_off43

set_option maxRecDepth 65536 in
set_option maxHeartbeats 400000 in
/-- The printed body is: ask for the device, then the loops. -/
theorem body_eq :
    cc0_body (F := F) xM (Memref.isWhole_whole _) wM (Memref.isWhole_whole _) oM (Memref.isWhole_whole _) bM (Memref.isWhole_whole _)
      rM (Memref.isWhole_whole _) sM (Memref.isWhole_whole _) aM (Memref.isWhole_whole _) cc0_scratch4 cc0_scratch5 cc0_scratch6 cc0_scratch7
      = Prog.op .deviceId fun c => flat c := by
  conv_lhs => simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton,
    k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton,
    k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton,
    k0_part20_skel, k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel, k0_part34_eq_skeleton,
    k0_part34_skel, guarded_then, bind_assoc, Prog.bind_op, Prog.bind_ret, Prog.bind_lift, Prog.pure_eq_ret, semSignalWord, semWaitWord]
  conv_rhs => simp only [flat, narrow, signal, gather, sendX, keepOwn, loop, take, await, mulFirst, mulAdd2, localMax, sendA, recvA, quantise,
    drainX, drainA, bind_assoc, Prog.bind_op, Prog.bind_ret, Prog.bind_lift, Prog.pure_eq_ret, semSignalWord, semWaitWord]
  conv_rhs => dsimp only [guards0, guards1, guards2, guards3, Matrix.cons_val_zero, Matrix.cons_val_succ]
  refine op_congr fun c => ?_
  iterate 3 refine op_congr fun _ => ?_
  iterate 15 refine op_congr fun _ => ?_
  refine op_congr fun _ => ?_
  iterate 15 refine op_congr fun _ => ?_
  iterate 3 refine op_congr fun _ => ?_
  iterate 4
    refine bind_congr fun _ => ?_
    iterate 3 refine op_congr fun _ => ?_
  iterate 4 refine op_congr fun _ => ?_
  iterate 3
    iterate 4
      refine bind_congr fun _ => ?_
      iterate 3 refine op_congr fun _ => ?_
    iterate 5 refine op_congr fun _ => ?_
  iterate 3 refine op_congr fun _ => ?_
  iterate 30 refine op_congr fun _ => ?_
  iterate 4 refine op_congr fun _ => ?_
  iterate 30 refine op_congr fun _ => ?_
  rfl

end Cert.KernelIdeal.Body

end
-- ==== Proof.Ideal.Proto.lean ====
/-
What the sixteen devices hand each other.

Every device has one barrier cell and four times sixteen copy cells: the send and receive cells of the row blocks
of `x`, and the send and receive cells of the maxima.  This module says which of them are used, who pays each of them,
what a payment hands over, and what each buffer holds at the time.
-/
module

public import proofs.«01_k».proof.Proof.Ideal.Flat
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

/-- The ghost state of the protocol: rounds with duties named by the paying device. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

set_option backward.proofsInPublic true in
/-- The device `k + 1` places after `c`. -/
def up (c : Dev nD) (k : Fin 15) : Dev nD := ⟨(c.val + 1 + k.val) % 16, Nat.mod_lt _ (by decide)⟩
set_option backward.proofsInPublic true in
/-- The device `k + 1` places before `c`. -/
def down (c : Dev nD) (k : Fin 15) : Dev nD := ⟨(c.val + 15 - k.val) % 16, Nat.mod_lt _ (by decide)⟩
set_option backward.proofsInPublic true in
/-- The send cell of the `k`-th copy. -/
def nth (k : Fin 15) : Fin 16 := ⟨1 + k.val, by omega⟩

theorem up_ne (c : Dev nD) (k : Fin 15) : up c k ≠ c := by revert c k; decide
theorem down_ne (c : Dev nD) (k : Fin 15) : down c k ≠ c := by revert c k; decide
theorem nth_ne (k : Fin 15) : nth k ≠ 0 := by revert k; decide
theorem down_up (c : Dev nD) (k : Fin 15) : down (up c k) k = c := by revert c k; decide
theorem up_down (c : Dev nD) (k : Fin 15) : up (down c k) k = c := by revert c k; decide
theorem up_inj (c : Dev nD) : Function.Injective (up c) := by revert c; decide
theorem down_inj (c : Dev nD) : Function.Injective (down c) := by revert c; decide
theorem nth_inj : Function.Injective nth := by decide
theorem up_image (c : Dev nD) : Finset.univ.erase c = Finset.univ.map ⟨up c, up_inj c⟩ := by revert c; decide
theorem down_image (c : Dev nD) : Finset.univ.erase c = Finset.univ.map ⟨down c, down_inj c⟩ := by revert c; decide
theorem nth_image : Finset.univ.erase (0 : Fin 16) = Finset.univ.map ⟨nth, nth_inj⟩ := by decide

/-- The printed targets of the copies and signals. -/
theorem barDev_eq (c : Dev nD) (k : Fin 15) : barDev c k = up c k := by
  apply Fin.ext
  fin_cases k
  · exact k0_dev1_eq c
  · exact k0_dev2_eq c
  · exact k0_dev3_eq c
  · exact k0_dev4_eq c
  · exact k0_dev5_eq c
  · exact k0_dev6_eq c
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
theorem xDev_eq (c : Dev nD) (k : Fin 15) : xDev c k = down c k := by
  apply Fin.ext
  fin_cases k
  · exact k0_dev16_eq c
  · exact k0_dev17_eq c
  · exact k0_dev18_eq c
  · exact k0_dev19_eq c
  · exact k0_dev20_eq c
  · exact k0_dev21_eq c
  · exact k0_dev22_eq c
  · exact k0_dev23_eq c
  · exact k0_dev24_eq c
  · exact k0_dev25_eq c
  · exact k0_dev26_eq c
  · exact k0_dev27_eq c
  · exact k0_dev28_eq c
  · exact k0_dev29_eq c
  · exact k0_dev30_eq c
theorem amaxDev_eq (c : Dev nD) (k : Fin 15) : amaxDev c k = up c k := by
  apply Fin.ext
  fin_cases k
  · exact k0_dev31_eq c
  · exact k0_dev32_eq c
  · exact k0_dev33_eq c
  · exact k0_dev34_eq c
  · exact k0_dev35_eq c
  · exact k0_dev36_eq c
  · exact k0_dev37_eq c
  · exact k0_dev38_eq c
  · exact k0_dev39_eq c
  · exact k0_dev40_eq c
  · exact k0_dev41_eq c
  · exact k0_dev42_eq c
  · exact k0_dev43_eq c
  · exact k0_dev44_eq c
  · exact k0_dev45_eq c

/-! ## Cells -/

set_option backward.proofsInPublic true in
/-- The copy semaphores: array `a` (0 sends of row blocks, 1 their arrivals, 2 sends of maxima, 3 their arrivals), number `s`. -/
def dsem (a : Fin 4) (s : Fin 16) : DmaSem sig := ⟨3 + 16 * a.val + s.val, by
  have : 3 + 16 * a.val + s.val < 67 := by omega
  exact this⟩

/-- A device's semaphores: the barrier, or a copy semaphore. -/
abbrev csem : Option (Fin 4 × Fin 16) → SemLoc sig
  | none => .reg barS
  | some (a, s) => .dma (dsem a s)
/-- The cell of a device. -/
abbrev kcell (ck : Dev nD × Option (Fin 4 × Fin 16)) : GSem nD τ sig := ((ck.1 : Thread nD τ), csem ck.2)
abbrev barCell (c : Dev nD) : GSem nD τ sig := ((c : Thread nD τ), .reg barS)
abbrev dCell (c : Dev nD) (a : Fin 4) (s : Fin 16) : GSem nD τ sig := ((c : Thread nD τ), .dma (dsem a s))

/-- Which copy semaphore this is, if one. -/
def which (sm : SemLoc sig) : Option (Fin 4 × Fin 16) :=
  match sm with
  | .dma q => if h : 3 ≤ q.val ∧ q.val < 67 then some (⟨(q.val - 3) / 16, by omega⟩, ⟨(q.val - 3) % 16, by omega⟩) else none
  | .reg _ => none

theorem which_dsem (a : Fin 4) (s : Fin 16) : which (.dma (dsem a s)) = some (a, s) := by
  unfold which dsem
  dsimp only
  have ha := a.isLt
  have hs := s.isLt
  rw [dif_pos (by constructor <;> omega)]
  refine congrArg some (Prod.ext (Fin.ext ?_) (Fin.ext ?_))
  · show (3 + 16 * a.val + s.val - 3) / 16 = a.val; omega
  · show (3 + 16 * a.val + s.val - 3) % 16 = s.val; omega

theorem dsem_inj {a a' : Fin 4} {s s' : Fin 16} (h : (SemLoc.dma (dsem a s) : SemLoc sig) = .dma (dsem a' s')) : a = a' ∧ s = s' := by
  have := congrArg which h
  rw [which_dsem, which_dsem] at this
  exact Prod.mk.inj (Option.some.inj this)

theorem dma_ne_bar (q : DmaSem sig) : (SemLoc.dma q : SemLoc sig) ≠ .reg barS := fun h => by cases h

/-- The semaphores that the body names. -/
theorem semOf_eq (a : Fin 4) (A : DmaSems sig S16) (hA : A = (![cc0_scratch4, cc0_scratch5, cc0_scratch6, cc0_scratch7] : Fin 4 → DmaSems sig S16) a)
    (off : Fin 1 → ℕ) (h) (s : Fin 16) (hs : off = ![s.val]) : semOf A off h = dsem a s := by
  subst hA hs
  revert a s
  decide

/-! ## Windows -/

theorem inbRow (s : Fin 16) : ∀ i, (![256 * s.val, 0] : Fin 2 → ℕ) i + S256x256.size i ≤ S4096x256.size i := by revert s; decide
theorem inbSlotX (s : Fin 16) : ∀ i, (![s.val, 0, 0] : Fin 3 → ℕ) i + S1x256x256.size i ≤ S16x256x256.size i := by revert s; decide
theorem inbSlotA (s : Fin 16) : ∀ i, (![s.val, 0, 0] : Fin 3 → ℕ) i + S1x8x128.size i ≤ S16x8x128.size i := by revert s; decide

/-- Row block `s` of the bf16 copy, slot `s` of the arrivals, slot `s` of the maxima. -/
abbrev bRow (s : Fin 16) : Memref sig .tc .vmem S256x256 .bf16 := bAt ![256 * s.val, 0] (inbRow s)
abbrev rSlot (s : Fin 16) : Memref sig .tc .vmem S256x256 .bf16 := rAt ![s.val, 0, 0] (inbSlotX s)
abbrev aSlot (s : Fin 16) : Memref sig .tc .vmem S8x128 .f32 := aAt ![s.val, 0, 0] (inbSlotA s)

theorem mem_bRow (s : Fin 16) (i : S4096x256.Idx) : i ∈ (bRow s).view.set ↔ (i 0).val / 256 = s.val := by
  have h : i ∈ (bRow s).view.set ↔ ∀ a, (![256 * s.val, 0] : Fin 2 → ℕ) a ≤ i a ∧ (i a : ℕ) < (![256 * s.val, 0] : Fin 2 → ℕ) a + S256x256.size a := by
    rw [show (bRow s).view.set = (Rect.unit (s := S4096x256) ![256 * s.val, 0] S256x256.size (inbRow s)).set from View.set_slice_whole _ _]
    exact Rect.mem_set_unit
  rw [h]
  have h0 : (i 0).val < 4096 := (i 0).isLt
  have h1 : (i 1).val < 256 := (i 1).isLt
  constructor
  · intro H
    have := H 0
    have h' : 256 * s.val ≤ (i 0).val ∧ (i 0).val < 256 * s.val + 256 := this
    omega
  · intro H a
    fin_cases a
    · show 256 * s.val ≤ (i 0).val ∧ (i 0).val < 256 * s.val + 256; omega
    · show 0 ≤ (i 1).val ∧ (i 1).val < 0 + 256; omega

theorem mem_rSlot (s : Fin 16) (i : S16x256x256.Idx) : i ∈ (rSlot s).view.set ↔ (i 0).val = s.val := by
  have h : i ∈ (rSlot s).view.set ↔ ∀ a, (![s.val, 0, 0] : Fin 3 → ℕ) a ≤ i a ∧ (i a : ℕ) < (![s.val, 0, 0] : Fin 3 → ℕ) a + S1x256x256.size a := by
    rw [show (rSlot s).view.set = (Rect.unit (s := S16x256x256) ![s.val, 0, 0] S1x256x256.size (inbSlotX s)).set from
      (View.set_reshape _ _).trans (View.set_slice_whole _ _)]
    exact Rect.mem_set_unit
  rw [h]
  have h1 : (i 1).val < 256 := (i 1).isLt
  have h2 : (i 2).val < 256 := (i 2).isLt
  constructor
  · intro H
    have h' : s.val ≤ (i 0).val ∧ (i 0).val < s.val + 1 := H 0
    omega
  · intro H a
    fin_cases a
    · show s.val ≤ (i 0).val ∧ (i 0).val < s.val + 1; omega
    · show 0 ≤ (i 1).val ∧ (i 1).val < 0 + 256; omega
    · show 0 ≤ (i 2).val ∧ (i 2).val < 0 + 256; omega

theorem mem_aSlot (s : Fin 16) (i : S16x8x128.Idx) : i ∈ (aSlot s).view.set ↔ (i 0).val = s.val := by
  have h : i ∈ (aSlot s).view.set ↔ ∀ a, (![s.val, 0, 0] : Fin 3 → ℕ) a ≤ i a ∧ (i a : ℕ) < (![s.val, 0, 0] : Fin 3 → ℕ) a + S1x8x128.size a := by
    rw [show (aSlot s).view.set = (Rect.unit (s := S16x8x128) ![s.val, 0, 0] S1x8x128.size (inbSlotA s)).set from
      (View.set_reshape _ _).trans (View.set_slice_whole _ _)]
    exact Rect.mem_set_unit
  rw [h]
  have h1 : (i 1).val < 8 := (i 1).isLt
  have h2 : (i 2).val < 128 := (i 2).isLt
  constructor
  · intro H
    have h' : s.val ≤ (i 0).val ∧ (i 0).val < s.val + 1 := H 0
    omega
  · intro H a
    fin_cases a
    · show s.val ≤ (i 0).val ∧ (i 0).val < s.val + 1; omega
    · show 0 ≤ (i 1).val ∧ (i 1).val < 0 + 8; omega
    · show 0 ≤ (i 2).val ∧ (i 2).val < 0 + 128; omega

/-- What one row-block copy credits, and what one copy of a maximum credits. -/
abbrev NX : ℕ := (rSlot 0).view.dmaCredit
abbrev NA : ℕ := (aSlot 0).view.dmaCredit
theorem NX_pos : 0 < NX := View.dmaCredit_pos _ (by decide)
theorem NA_pos : 0 < NA := View.dmaCredit_pos _ (by decide)
theorem rSlot_credit (s : Fin 16) : (rSlot s).view.dmaCredit = NX := rfl
theorem bRow_credit (s : Fin 16) : (bRow s).view.dmaCredit = NX := rfl
theorem aSlot_credit (s : Fin 16) : (aSlot s).view.dmaCredit = NA := rfl

/-! ## Contents -/

variable (X : Dev nD → Vec F S4096x256 .f32) (Wt : Dev nD → Vec F S4096x2048 .f32)

/-- The block of `x` in bf16. -/
def XB (c : Dev nD) : Vec F S4096x256 .bf16 := k0_pay1 (X c)

/-- What device `c` has received: slot `s` is row block `c` of device `s`. -/
def XR (c : Dev nD) : Vec F S16x256x256 .bf16 := fun i =>
  XB X (i 0) (ix2 (⟨256 * c.val + (i 1).val, by have h1 : (i 1).val < 256 := (i 1).isLt; have h2 : c.val < 16 := c.isLt; omega⟩ : Fin 4096) (i 2))

/-- The slot that column block `r` of group `j` is taken from. -/
def slotOf (c : Dev nD) (j r : Fin 4) : Fin 16 := ⟨4 * ((c.val / 4 + j.val) % 4) + r.val, by omega⟩

/-- The `j`-th unpacked group on device `c`. -/
def SG (c : Dev nD) (j : Fin 4) : Vec F S256x1024 .f32 := fun i =>
  widen (fun u : S1x256x256.Idx => XR X c (ix3 (slotOf c j ⟨(i 1).val / 256, by have : (i 1).val < 1024 := (i 1).isLt; omega⟩) (u 1) (u 2)))
    (ix2 (i 0) (⟨(i 1).val % 256, Nat.mod_lt _ (by decide)⟩ : Fin 256))

/-- The rows of `w` that go with the `j`-th group. -/
def WG (c : Dev nD) (j : Fin 4) : Vec F S1024x2048 .f32 :=
  wM.view.readAt (Elt F) (Rect.unit (s := S4096x2048) (k0_off15 c (BitVec.ofNat 32 j.val)) S1024x2048.size (k0_off15_inb c j)).toLoadRect (Wt c)

/-- The result before quantisation, after one, two, three and four groups. -/
def Y1 (c : Dev nD) : Vec F S256x2048 .f32 := k0_pay8 (SG X c 0) (WG Wt c 0)
def Y2 (c : Dev nD) : Vec F S256x2048 .f32 := k0_pay13 (SG X c 1) (WG Wt c 1) (Y1 X Wt c)
def Y3 (c : Dev nD) : Vec F S256x2048 .f32 := k0_pay13 (SG X c 2) (WG Wt c 2) (Y2 X Wt c)
def Y4 (c : Dev nD) : Vec F S256x2048 .f32 := k0_pay13 (SG X c 3) (WG Wt c 3) (Y3 X Wt c)

/-- The sixteen maxima: slot `s` is device `s`'s. The same on every device. -/
def AM : Vec F S16x8x128 .f32 := fun i => k0_pay25 (Y4 X Wt (i 0)) (ix3 (0 : Fin 1) (i 1) (i 2))

/-- The result. -/
def OutV (c : Dev nD) : Vec F S256x2048 .f32 := k0_pay26 (AM X Wt) (Y4 X Wt c)

/-- Row block `s` of the bf16 copy on device `c`. -/
def bPts (c : Dev nD) (s : Fin 16) (f : Vec F S4096x256 .bf16) : sProp 𝕄 :=
  bM.view.loc (c : Thread nD τ) ↦[(bRow s).view.set]{fullShare} f
/-- Slot `s` of the arrivals on device `c`. -/
def rPts (c : Dev nD) (s : Fin 16) (f : Vec F S16x256x256 .bf16) : sProp 𝕄 :=
  rM.view.loc (c : Thread nD τ) ↦[(rSlot s).view.set]{fullShare} f
/-- Slot `s` of the maxima on device `c`, at a share. -/
def aPts (q : PosShare TreeShare) (c : Dev nD) (s : Fin 16) (f : Vec F S16x8x128 .f32) : sProp 𝕄 :=
  aM.view.loc (c : Thread nD τ) ↦[(aSlot s).view.set]{q} f

instance bPts_storable (c : Dev nD) (s) (f) : BI.Storable (upEmb : UEmb _ 𝕄) (bPts (F := F) c s f) := by unfold bPts; infer_instance
instance rPts_storable (c : Dev nD) (s) (f) : BI.Storable (upEmb : UEmb _ 𝕄) (rPts (F := F) c s f) := by unfold rPts; infer_instance
instance aPts_storable (q) (c : Dev nD) (s) (f) : BI.Storable (upEmb : UEmb _ 𝕄) (aPts (F := F) q c s f) := by unfold aPts; infer_instance

/-- The share of the own maximum that is left after `k` copies have been started, and the share that the `k`-th copy takes. -/
def rest : ℕ → PosShare TreeShare
  | 0 => fullShare.right
  | k + 1 => (rest k).right
def lend (k : ℕ) : PosShare TreeShare := (rest k).left

/-! ## The schedule -/

/-- What device `p`'s entry signal hands device `c`: `p`'s two slots number `c`. -/
def barPay (c p : Dev nD) : sProp 𝕄 := iprop((∃ f, rPts (F := F) p c f) ∗ ∃ f, aPts (F := F) fullShare p c f)

set_option backward.proofsInPublic true in
/-- The device that the copy on send cell `s` goes to. -/
def dest (c : Dev nD) (s : Fin 16) : Dev nD := ⟨(c.val + 16 - s.val) % 16, Nat.mod_lt _ (by decide)⟩
theorem dest_nth (c : Dev nD) (k : Fin 15) : dest c (nth k) = down c k := by revert c k; decide

/-- What the landing of a copy hands over, cell by cell. -/
def copyPay (c : Dev nD) (a : Fin 4) (s : Fin 16) : sProp 𝕄 :=
  match a with
  | 0 => bPts c (dest c s) (XB X c)
  | 1 => rPts c s (XR X c)
  | 2 => aPts (lend (s.val - 1)) c c (AM X Wt)
  | 3 => aPts fullShare c s (AM X Wt)

instance barPay_storable (c p : Dev nD) : BI.Storable (upEmb : UEmb _ 𝕄) (barPay (F := F) c p) := by unfold barPay; infer_instance
instance copyPay_storable (c : Dev nD) (a s) : BI.Storable (upEmb : UEmb _ 𝕄) (copyPay (F := F) X Wt c a s) := by
  unfold copyPay; split <;> infer_instance

/-- Whether a copy cell of device `c` is used: no copy has number 0 and no device copies to itself. -/
def used (c : Dev nD) (a : Fin 4) (s : Fin 16) : Prop := if a = 0 ∨ a = 2 then s ≠ 0 else s ≠ c
instance (c a s) : Decidable (used c a s) := by unfold used; infer_instance
def amt (a : Fin 4) : ℕ := if a = 0 ∨ a = 1 then NX else NA
theorem amt_pos (a : Fin 4) : 0 < amt a := by
  unfold amt; split
  · exact NX_pos
  · exact NA_pos

/-- One round: the barrier cell has a duty for every other device, a used copy cell one duty. -/
def sched : Rounds.Schedule (GSem nD τ sig) (Fin 16) 𝕄 where
  duties g r :=
    if r = 0 ∧ g.1.2 = .tc then
      if g.2 = .reg barS then Finset.univ.erase g.1.1
      else match which g.2 with
        | some (a, s) => if used g.1.1 a s then {0} else ∅
        | none => ∅
    else ∅
  unitless _ := False
  amount g _ _ := if g.2 = .reg barS then 1 else match which g.2 with
    | some (a, _) => amt a
    | none => 1
  payload g _ d :=
    if g.2 = .reg barS then barPay g.1.1 d else match which g.2 with
    | some (a, s) => copyPay X Wt g.1.1 a s
    | none => iprop(emp)
  amount_pos g _ _ _ := by
    split
    · exact Nat.one_pos
    · split
      · exact amt_pos _
      · exact Nat.one_pos

instance sched_payload_storable (g : GSem nD τ sig) (r : ℕ) (d : Fin 16) :
    BI.Storable (upEmb : UEmb _ 𝕄) ((sched (F := F) X Wt).payload g r d) := by
  show BI.Storable upEmb (if g.2 = .reg barS then barPay g.1.1 d else match which g.2 with
    | some (a, s) => copyPay X Wt g.1.1 a s
    | none => iprop(emp))
  (repeat' split) <;> infer_instance

theorem duties_bar (c : Dev nD) : (sched X Wt).duties (barCell c) 0 = Finset.univ.erase c := by
  dsimp only [sched]; rw [if_pos ⟨rfl, rfl⟩, if_pos rfl]
theorem duties_copy (c : Dev nD) (a s) : (sched X Wt).duties (dCell c a s) 0 = if used c a s then {0} else ∅ := by
  dsimp only [sched]; rw [if_pos ⟨rfl, rfl⟩, if_neg (dma_ne_bar _), which_dsem]
theorem duties_used {c : Dev nD} {a s} (h : used c a s) : (sched X Wt).duties (dCell c a s) 0 = {0} := by rw [duties_copy, if_pos h]
theorem duties_unused {c : Dev nD} {a s} (h : ¬ used c a s) : (sched X Wt).duties (dCell c a s) 0 = ∅ := by rw [duties_copy, if_neg h]
theorem duties_later (g : GSem nD τ sig) : ∀ r, 1 ≤ r → (sched X Wt).duties g r = ∅ :=
  fun r hr => by dsimp only [sched]; rw [if_neg fun h => by omega]
theorem amount_bar (c : Dev nD) (d) : (sched X Wt).amount (barCell c) 0 d = 1 := by dsimp only [sched]; exact if_pos rfl
theorem amount_copy (c : Dev nD) (a s d) : (sched X Wt).amount (dCell c a s) 0 d = amt a := by
  dsimp only [sched]; rw [if_neg (dma_ne_bar _), which_dsem]
theorem expect_bar (c : Dev nD) : (sched X Wt).expect (barCell c) 0 = 15 := by
  unfold Schedule.expect Schedule.amountOf
  rw [duties_bar, Finset.sum_congr rfl fun d _ => amount_bar X Wt c d, Finset.sum_const, Finset.card_erase_of_mem (Finset.mem_univ _), Finset.card_univ,
    Fintype.card_fin]
  rfl
theorem expect_copy {c : Dev nD} {a s} (h : used c a s) : (sched X Wt).expect (dCell c a s) 0 = amt a := by
  unfold Schedule.expect Schedule.amountOf; rw [duties_used X Wt h, Finset.sum_singleton, amount_copy]
theorem payload_bar (c : Dev nD) (d) : (sched X Wt).payload (barCell c) 0 d = barPay c d := by dsimp only [sched]; exact if_pos rfl
theorem payload_copy (c : Dev nD) (a s d) : (sched X Wt).payload (dCell c a s) 0 d = copyPay X Wt c a s := by
  dsimp only [sched]; rw [if_neg (dma_ne_bar _), which_dsem]
theorem rest_bar (c : Dev nD) : bigSep ((sched X Wt).duties (barCell c) 0 \ ∅) (fun d => (sched X Wt).payload (barCell c) 0 d)
    = bigSep (Finset.univ.erase c) fun p => barPay (F := F) c p := by
  rw [Finset.sdiff_empty, duties_bar]; exact bigSep_congr fun p _ => payload_bar X Wt c p
theorem rest_copy {c : Dev nD} {a s} (h : used c a s) :
    bigSep ((sched X Wt).duties (dCell c a s) 0 \ ∅) (fun d => (sched X Wt).payload (dCell c a s) 0 d) = copyPay X Wt c a s := by
  rw [Finset.sdiff_empty, duties_used X Wt h, bigSep_singleton, payload_copy]

/-! ## What is owed, and in which order waits may happen -/

/-- `f k + f (k + 1) + … + f 14`. -/
def tail {A : Type} [AddCommMonoid A] (f : Fin 15 → A) : (n k : ℕ) → A
  | 0, _ => 0
  | n + 1, k => tail f n (k + 1) + if h : k < 15 then f ⟨k, h⟩ else 0

/-- The debts from the `k`-th entry signal, the `k`-th row block, the `k`-th maximum on. -/
def owBar (c : Dev nD) (k : ℕ) : CellTallies nD τ sig Unit := tail (fun k => tallyAt (barCell (up c k)) () 1) (15 - k) k
def owX (c : Dev nD) (k : ℕ) : CellTallies nD τ sig Unit := tail (fun k => tallyAt (dCell (down c k) 1 c) () NX) (15 - k) k
def owA (c : Dev nD) (k : ℕ) : CellTallies nD τ sig Unit := tail (fun k => tallyAt (dCell (up c k) 3 c) () NA) (15 - k) k

theorem tail_step {A : Type} [AddCommMonoid A] (f : Fin 15 → A) (k : Fin 15) : tail f (15 - k.val) k.val = tail f (15 - (k.val + 1)) (k.val + 1) + f k := by
  have h : 15 - k.val = (15 - (k.val + 1)) + 1 := by omega
  rw [h, tail, dif_pos k.isLt]

theorem owBar_step (c : Dev nD) (k : Fin 15) : owBar c k.val = owBar c (k.val + 1) + tallyAt (barCell (up c k)) () 1 := tail_step _ k
theorem owX_step (c : Dev nD) (k : Fin 15) : owX c k.val = owX c (k.val + 1) + tallyAt (dCell (down c k) 1 c) () NX := tail_step _ k
theorem owA_step (c : Dev nD) (k : Fin 15) : owA c k.val = owA c (k.val + 1) + tallyAt (dCell (up c k) 3 c) () NA := tail_step _ k
theorem owBar_end (c : Dev nD) : owBar c 15 = 0 := rfl
theorem owX_end (c : Dev nD) : owX c 15 = 0 := rfl
theorem owA_end (c : Dev nD) : owA c 15 = 0 := rfl

/-- All debts at launch. -/
def O₀ (c : Dev nD) : CellTallies nD τ sig Unit := owA c 0 + owX c 0 + owBar c 0

def L (g : GSem nD τ sig) : Finset Unit := if g.1.2 = .tc then {()} else ∅
/-- The order of waits: staging and sends first, then the barrier, the row blocks, the maxima. -/
def lv (g : GSem nD τ sig) (_ : Unit) : ℕ := if g.2 = .reg barS then 1 else match which g.2 with
  | some (1, _) => 2
  | some (3, _) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_x (c : Dev nD) (s) : lv (dCell c 1 s) () = 2 := by unfold lv; rw [if_neg (dma_ne_bar _), which_dsem]; rfl
theorem lv_a (c : Dev nD) (s) : lv (dCell c 3 s) () = 3 := by unfold lv; rw [if_neg (dma_ne_bar _), which_dsem]; rfl

/-- A cell that is owed something by a sum of debts is owed something by one of them. -/
theorem tail_pos {f : Fin 15 → CellTallies nD τ sig Unit} {g : GSem nD τ sig} {u : Unit} : ∀ {n k : ℕ}, 0 < tail f n k g u → ∃ k, 0 < f k g u
  | 0, _, h => absurd h (Nat.lt_irrefl 0)
  | n + 1, k, h => by
    rw [tail, Pi.add_apply, Finsupp.add_apply] at h
    by_cases hk : k < 15
    · rw [dif_pos hk] at h
      by_cases h2 : 0 < f ⟨k, hk⟩ g u
      · exact ⟨_, h2⟩
      · exact tail_pos (n := n) (k := k + 1) (by omega)
    · rw [dif_neg hk] at h
      exact tail_pos (n := n) (k := k + 1) (by simpa using h)

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owBar_pos {c : Dev nD} {k g u} (h : 0 < owBar c k g u) : ∃ k, g = barCell (up c k) := (tail_pos h).imp fun _ => tallyAt_pos
theorem owX_pos {c : Dev nD} {k g u} (h : 0 < owX c k g u) : ∃ k, g = dCell (down c k) 1 c := (tail_pos h).imp fun _ => tallyAt_pos
theorem owA_pos {c : Dev nD} {k g u} (h : 0 < owA c k g u) : ∃ k, g = dCell (up c k) 3 c := (tail_pos h).imp fun _ => tallyAt_pos

/-- A cell of level `n` may be waited for while every debt is on a cell of a higher level. -/
theorem mayWait_of (n : ℕ) (c : Dev nD) (sm : SemLoc sig) (O : CellTallies nD τ sig Unit) (hs : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barS) () (owA c 0 + owX c 0) :=
  mayWait_of 1 c _ _ (by rw [lv_bar]) fun g u h => by
    rw [Pi.add_apply, Finsupp.add_apply] at h
    rcases Nat.add_pos_iff_pos_or_pos.mp h with h | h
    · obtain ⟨k, rfl⟩ := owA_pos h; exact ⟨rfl, by rw [lv_a]; decide⟩
    · obtain ⟨k, rfl⟩ := owX_pos h; exact ⟨rfl, by rw [lv_x]; decide⟩

theorem mayWait_x (c : Dev nD) (s : Fin 16) : (levAts L lv : sProp 𝕄) ⊢ MayWait (c : Thread nD τ) (.dma (dsem 1 s)) () (owA c 0) :=
  mayWait_of 2 c _ _ (by rw [lv_x]) fun g u h => by
    obtain ⟨k, rfl⟩ := owA_pos h; exact ⟨rfl, by rw [lv_a]; decide⟩

theorem mayWait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine mayWait_of 0 c _ _ (by rw [hs]) fun g u h => ?_
    unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨k, rfl⟩ := owA_pos h; exact ⟨rfl, by rw [lv_a]; decide⟩
      · obtain ⟨k, rfl⟩ := owX_pos h; exact ⟨rfl, by rw [lv_x]; decide⟩
    · obtain ⟨k, rfl⟩ := owBar_pos h; exact ⟨rfl, by rw [lv_bar]; decide⟩
  · rw [MayWait_zero]; iintro -; iempintro

end Cert.KernelIdeal.Body

end
-- ==== Proof.Ideal.Slots.lean ====
/-
What the stores and the landed copies leave in the buffers, element by element.
-/
module

public import proofs.«01_k».proof.Proof.Ideal.Proto
public import Idealize.ShloMosaic.Lib.ValueLayout
public import Idealize.ShloMosaic.Lib.Pipeline.ValueKit.Geometry

@[expose] public section

noncomputable section

namespace Cert.KernelIdeal.Body

open Cert.KernelIdeal Cert.KernelIdeal.Gen
open Idealize.ShloMosaic Idealize.ShloMosaic.TcCoe Idealize.SL.Sem
open Idealize.ShloMosaic.ValueIdx (ix2 ix3 eq_ix2 eq_ix3)

variable {F : FTy → Type} [FloatOps F]

/-! ## Where a window's elements lie -/

theorem bRow_emb (s : Fin 16) (x : S256x256.Idx) :
    (bRow s).view.emb x = ix2 (⟨256 * s.val + (x 0).val, by have h : (x 0).val < 256 := (x 0).isLt; omega⟩ : Fin 4096) (x 1) := by
  funext a
  apply Fin.ext
  refine (ValueKit.view_emb_slice_whole_unit_val cc0_scratch0 ![256 * s.val, 0] _ (inbRow s) x a).trans ?_
  match a with
  | ⟨0, _⟩ => rfl
  | ⟨1, _⟩ => exact Nat.zero_add _

theorem rSlot_emb (s : Fin 16) (x : S256x256.Idx) : (rSlot s).view.emb x = ix3 s (x 0) (x 1) := by
  refine (congrArg ((View.whole cc0_scratch1).slice (Rect.unit (s := S16x256x256) ![s.val, 0, 0] S1x256x256.size (inbSlotX s))).emb
    ((congrArg _ (eq_ix2 x)).trans (ValueIdx.reshapeEquiv_ix2_1ab (a := 256) (b := 256) rfl (x 0) (x 1)))).trans ?_
  funext a
  apply Fin.ext
  refine (ValueKit.view_emb_slice_whole_unit_val cc0_scratch1 ![s.val, 0, 0] _ (inbSlotX s) _ a).trans ?_
  match a with
  | ⟨0, _⟩ => rfl
  | ⟨1, _⟩ => exact Nat.zero_add _
  | ⟨2, _⟩ => exact Nat.zero_add _

theorem aSlot_emb (s : Fin 16) (x : S8x128.Idx) : (aSlot s).view.emb x = ix3 s (x 0) (x 1) := by
  refine (congrArg ((View.whole cc0_scratch3).slice (Rect.unit (s := S16x8x128) ![s.val, 0, 0] S1x8x128.size (inbSlotA s))).emb
    ((congrArg _ (eq_ix2 x)).trans (ValueIdx.reshapeEquiv_ix2_1ab (a := 8) (b := 128) rfl (x 0) (x 1)))).trans ?_
  funext a
  apply Fin.ext
  refine (ValueKit.view_emb_slice_whole_unit_val cc0_scratch3 ![s.val, 0, 0] _ (inbSlotA s) _ a).trans ?_
  match a with
  | ⟨0, _⟩ => rfl
  | ⟨1, _⟩ => exact Nat.zero_add _
  | ⟨2, _⟩ => exact Nat.zero_add _

theorem of_mem_rSlot {s : Fin 16} {i : S16x256x256.Idx} (h : i ∈ (rSlot s).view.set) : i = (rSlot s).view.emb (ix2 (i 1) (i 2)) := by
  have h0 : i 0 = s := Fin.ext ((mem_rSlot s i).mp h)
  rw [rSlot_emb, ← h0]
  exact eq_ix3 i

theorem of_mem_aSlot {s : Fin 16} {i : S16x8x128.Idx} (h : i ∈ (aSlot s).view.set) : i = (aSlot s).view.emb (ix2 (i 1) (i 2)) := by
  have h0 : i 0 = s := Fin.ext ((mem_aSlot s i).mp h)
  rw [aSlot_emb, ← h0]
  exact eq_ix3 i

/-! ## Landed copies -/

section Landed
variable (X : Dev nD → Vec F S4096x256 .f32) (Wt : Dev nD → Vec F S4096x2048 .f32)

/-- Row block `d` of device `c`, landed in slot `c` of device `d`, is what `d` has received. -/
theorem land_x (c d : Dev nD) (fd : Vec F S16x256x256 .bf16) (i : S16x256x256.Idx) (hi : i ∈ (rSlot c).view.set) :
    (rSlot c).view.write (Elt F) fd ((bRow d).view.read (Elt F) (XB X c)) Finset.univ i = XR X d i := by
  rw [of_mem_rSlot hi, View.write_emb_of_mem _ _ (Finset.mem_univ _), View.read_apply, bRow_emb, rSlot_emb]
  rfl

/-- A slot of the maxima landed in the same slot of another device. -/
theorem land_a (s : Fin 16) (fd f : Vec F S16x8x128 .f32) (i : S16x8x128.Idx) (hi : i ∈ (aSlot s).view.set) :
    (aSlot s).view.write (Elt F) fd ((aSlot s).view.read (Elt F) f) Finset.univ i = f i := by
  rw [of_mem_aSlot hi, View.write_emb_of_mem _ _ (Finset.mem_univ _), View.read_apply]
  rfl

/-! ## Loads and stores of a slot -/

/-- An index of a one-slot rectangle of the arrivals, placed. -/
theorem rectX_emb (s : Fin 16) (x : S1x256x256.Idx) :
    (rM.access (Rect.unit (s := S16x256x256) ![s.val, 0, 0] S1x256x256.size (inbSlotX s))).emb x = ix3 s (x 1) (x 2) := by
  funext a
  apply Fin.ext
  refine (ValueKit.view_emb_slice_whole_unit_val cc0_scratch1 ![s.val, 0, 0] _ (inbSlotX s) x a).trans ?_
  match a with
  | ⟨0, _⟩ => have : (x 0).val < 1 := (x 0).isLt; show s.val + (x 0).val = s.val; omega
  | ⟨1, _⟩ => exact Nat.zero_add _
  | ⟨2, _⟩ => exact Nat.zero_add _

theorem rectA_emb (s : Fin 16) (x : S1x8x128.Idx) :
    (aM.access (Rect.unit (s := S16x8x128) ![s.val, 0, 0] S1x8x128.size (inbSlotA s))).emb x = ix3 s (x 1) (x 2) := by
  funext a
  apply Fin.ext
  refine (ValueKit.view_emb_slice_whole_unit_val cc0_scratch3 ![s.val, 0, 0] _ (inbSlotA s) x a).trans ?_
  match a with
  | ⟨0, _⟩ => have : (x 0).val < 1 := (x 0).isLt; show s.val + (x 0).val = s.val; omega
  | ⟨1, _⟩ => exact Nat.zero_add _
  | ⟨2, _⟩ => exact Nat.zero_add _

/-- The device's own row block, stored into its own slot. -/
theorem keep_x (c : Dev nD) (f : Vec F S16x256x256 .bf16) (i : S16x256x256.Idx) (hi : i ∈ (rSlot c).view.set) :
    (rM.access (Rect.unit (s := S16x256x256) ![c.val, 0, 0] S1x256x256.size (inbSlotX c))).write (Elt F) f
      (k0_pay3 (k0_pay2 (bM.view.readAt (Elt F) (Rect.unit (s := S4096x256) ![256 * c.val, 0] S256x256.size (inbRow c)).toLoadRect (XB X c)))) Finset.univ i
      = XR X c i := by
  have h0 : i 0 = c := Fin.ext ((mem_rSlot c i).mp hi)
  have he : i = (rM.access (Rect.unit (s := S16x256x256) ![c.val, 0, 0] S1x256x256.size (inbSlotX c))).emb (ix3 (0 : Fin 1) (i 1) (i 2)) := by
    rw [rectX_emb, ← h0]; exact eq_ix3 i
  have hw : k0_pay3 (k0_pay2 (bM.view.readAt (Elt F) (Rect.unit (s := S4096x256) ![256 * c.val, 0] S256x256.size (inbRow c)).toLoadRect (XB X c)))
      (ix3 (0 : Fin 1) (i 1) (i 2))
      = XB X c ((bRow c).view.emb (ix2 (i 1) (i 2))) := by
    unfold k0_pay3 k0_pay2
    dsimp only
    rw [show ∀ (v : FVec F S1x256x256 .bf16), shapeCast S1x256x256 v shapeCasts_S1x256x256_S1x256x256 = v from
      fun v => funext fun j => congrArg v (Shape.reshapeEquiv_self _ _)]
    refine (ValueIdx.shapeCast_ab_1ab_apply _ _ (0 : Fin 1) (i 1) (i 2)).trans ?_
    rfl
  refine (congrArg _ he).trans ((View.write_emb_of_mem _ _ (Finset.mem_univ _)).trans (hw.trans ?_))
  rw [bRow_emb]; unfold XR; rw [h0]; rfl

/-- The device's own maximum, stored into its own slot. -/
theorem keep_a (c : Dev nD) (f : Vec F S16x8x128 .f32) (i : S16x8x128.Idx) (hi : i ∈ (aSlot c).view.set) :
    (aM.access (Rect.unit (s := S16x8x128) ![c.val, 0, 0] S1x8x128.size (inbSlotA c))).write (Elt F) f (k0_pay25 (Y4 X Wt c)) Finset.univ i
      = AM X Wt i := by
  have h0 : i 0 = c := Fin.ext ((mem_aSlot c i).mp hi)
  have he : i = (aM.access (Rect.unit (s := S16x8x128) ![c.val, 0, 0] S1x8x128.size (inbSlotA c))).emb (ix3 (0 : Fin 1) (i 1) (i 2)) := by
    rw [rectA_emb, ← h0]; exact eq_ix3 i
  have hw : ∀ (w : Vec F S1x8x128 .f32) (x : S1x8x128.Idx),
      (aM.access (Rect.unit (s := S16x8x128) ![c.val, 0, 0] S1x8x128.size (inbSlotA c))).write (Elt F) f w Finset.univ
        ((aM.access (Rect.unit (s := S16x8x128) ![c.val, 0, 0] S1x8x128.size (inbSlotA c))).emb x) = w x := fun w x =>
    View.write_emb_of_mem (v := aM.access (Rect.unit (s := S16x8x128) ![c.val, 0, 0] S1x8x128.size (inbSlotA c))) f w (Finset.mem_univ x)
  refine (congrArg ((aM.access (Rect.unit (s := S16x8x128) ![c.val, 0, 0] S1x8x128.size (inbSlotA c))).write (Elt F) f (k0_pay25 (Y4 X Wt c)) Finset.univ) he).trans
    ((hw (k0_pay25 (Y4 X Wt c)) (ix3 (0 : Fin 1) (i 1) (i 2))).trans ?_)
  unfold AM; rw [h0]

/-- What the load of a slot of the arrivals reads. -/
theorem load_x (c : Dev nD) (s : Fin 16) :
    rM.view.readAt (Elt F) (Rect.unit (s := S16x256x256) ![s.val, 0, 0] S1x256x256.size (inbSlotX s)).toLoadRect (XR X c)
      = fun u : S1x256x256.Idx => XR X c (ix3 s (u 1) (u 2)) := by
  funext u
  show XR X c ((rM.access (Rect.unit (s := S16x256x256) ![s.val, 0, 0] S1x256x256.size (inbSlotX s))).emb u) = _
  rw [rectX_emb]; rfl

theorem rectS_emb (r : Fin 4) (x : S256x256.Idx) :
    (sM.access (Rect.unit (s := S256x1024) ![0, 256 * r.val] S256x256.size (inbCol r))).emb x
      = ix2 (x 0) (⟨256 * r.val + (x 1).val, by have h : (x 1).val < 256 := (x 1).isLt; omega⟩ : Fin 1024) := by
  funext a
  apply Fin.ext
  refine (ValueKit.view_emb_slice_whole_unit_val cc0_scratch2 ![0, 256 * r.val] _ (inbCol r) x a).trans ?_
  match a with
  | ⟨0, _⟩ => exact Nat.zero_add _
  | ⟨1, _⟩ => rfl

/-- Column block `r` of the unpacked group, stored after those before it. -/
theorem put_col (c : Dev nD) (j r : Fin 4) (f : Vec F S256x1024 .f32) (hf : ∀ i, (i 1).val < 256 * r.val → f i = SG X c j i)
    (i : S256x1024.Idx) (hi : (i 1).val < 256 * (r.val + 1)) :
    (sM.access (Rect.unit (s := S256x1024) ![0, 256 * r.val] S256x256.size (inbCol r))).write (Elt F) f
      (widen (fun u : S1x256x256.Idx => XR X c (ix3 (slotOf c j r) (u 1) (u 2)))) Finset.univ i = SG X c j i := by
  by_cases h : (i 1).val < 256 * r.val
  · rw [← hf i h]
    refine View.write_of_not_mem _ _ _ fun hm => ?_
    rw [View.setOn_univ, show (sM.access (Rect.unit (s := S256x1024) ![0, 256 * r.val] S256x256.size (inbCol r))).set
      = (Rect.unit (s := S256x1024) ![0, 256 * r.val] S256x256.size (inbCol r)).set from View.set_slice_whole _ _] at hm
    have h' : 256 * r.val ≤ (i 1).val := (Rect.mem_set_unit.mp hm 1).1
    omega
  · have hq : (i 1).val / 256 = r.val := by omega
    have he : i = (sM.access (Rect.unit (s := S256x1024) ![0, 256 * r.val] S256x256.size (inbCol r))).emb
        (ix2 (i 0) (⟨(i 1).val % 256, Nat.mod_lt _ (by decide)⟩ : Fin 256)) := by
      rw [rectS_emb]
      refine (eq_ix2 i).trans (congrArg (ix2 (i 0)) (Fin.ext ?_))
      show (i 1).val = 256 * r.val + (i 1).val % 256
      omega
    refine (congrArg _ he).trans ((View.write_emb_of_mem _ _ (Finset.mem_univ _)).trans ?_)
    show widen (fun u : S1x256x256.Idx => XR X c (ix3 (slotOf c j r) (u 1) (u 2)))
            (ix2 (i 0) (⟨(i 1).val % 256, Nat.mod_lt _ (by decide)⟩ : Fin 256)) = SG X c j i
    unfold SG
    rw [show r = (⟨(i 1).val / 256, by rw [hq]; exact r.isLt⟩ : Fin 4) from Fin.ext hq.symm]

end Landed

/-! ## Loads and stores of whole buffers -/

theorem hz2 : (![0, 0] : Fin 2 → ℕ) = fun _ => 0 := funext fun a => by fin_cases a <;> rfl
theorem hz3 : (![0, 0, 0] : Fin 3 → ℕ) = fun _ => 0 := funext fun a => by fin_cases a <;> rfl

end Cert.KernelIdeal.Body

end
-- ==== Proof.Ideal.Steps.lean ====
/-
What each step of the body does.

`Tri` is a Hoare triple of one device's program: from the assertion before it, and what every device may use at any
time (the invariants of all cells, that they have reached their round, the order of waits), the program ends in the
assertion after it.
-/
module

public import proofs.«01_k».proof.Proof.Ideal.Slots

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

abbrev 𝒱₀ : Variants := Variants.none

/-- The names of the cells' invariants. -/
abbrev Names : Type := Dev nD × Option (Fin 4 × Fin 16) → ℕ

variable (X : Dev nD → Vec F S4096x256 .f32) (Wt : Dev nD → Vec F S4096x2048 .f32) (K : Names)

/-- What every device may use at any time. -/
def ctx : sProp 𝕄 :=
  iprop((bigSep Finset.univ fun ck => cellInv ER (sched X Wt) (K ck) (kcell ck)) ∗ (bigSep Finset.univ fun ck => reached ER (kcell ck) 0) ∗ levAts L lv)

instance ctx_persistent : BI.Persistent (ctx X Wt K) := by unfold ctx; infer_instance

theorem ctx_inv (ck : Dev nD × Option (Fin 4 × Fin 16)) : ctx X Wt K ⊢ cellInv ER (sched X Wt) (K ck) (kcell ck) := by
  unfold ctx
  iintro ⟨H, -, -⟩
  iapply (show (bigSep Finset.univ fun ck => (cellInv ER (sched X Wt) (K ck) (kcell ck) : sProp 𝕄)) ⊢ cellInv ER (sched X Wt) (K ck) (kcell ck) from bigSep_elim (Finset.mem_univ ck)); iexact H
theorem ctx_reached (ck : Dev nD × Option (Fin 4 × Fin 16)) : ctx X Wt K ⊢ (reached ER (kcell ck) 0 : sProp 𝕄) := by
  unfold ctx
  iintro ⟨-, H, -⟩
  iapply (show (bigSep Finset.univ fun ck => (reached ER (kcell ck) 0 : sProp 𝕄)) ⊢ reached ER (kcell ck) 0 from bigSep_elim (Finset.mem_univ ck)); iexact H
theorem ctx_lev : ctx X Wt K ⊢ (levAts L lv : sProp 𝕄) := by
  unfold ctx
  iintro ⟨-, -, H⟩
  iexact H

theorem ctx_mayWait {c : Dev nD} {sm : SemLoc sig} {O : CellTallies nD τ sig Unit} (h : (levAts L lv : sProp 𝕄) ⊢ MayWait (c : Thread nD τ) sm () O) :
    ctx X Wt K ⊢ (MayWait (c : Thread nD τ) sm () O : sProp 𝕄) :=
  (ctx_lev X Wt K).trans h

/-- A Hoare triple of a program of device `c`. -/
def Tri (c : Dev nD) (P : sProp 𝕄) (p : Pr (F := F)) (R : sProp 𝕄) : Prop :=
  iprop(ctx X Wt K ∗ P) ⊢ wp frame (wpE (defs₀ (F := F)) 𝒱₀ (c : Thread nD τ) none) Set.univ p fun _ => R

variable {X Wt K} {c : Dev nD}

theorem Tri.bind {P M R : sProp 𝕄} {p q : Pr (F := F)} (h1 : Tri X Wt K c P p M) (h2 : Tri X Wt K c M q R) :
    Tri X Wt K c P (p >>= fun _ => q) R := by
  unfold Tri at *
  rw [wp_bind]
  iintro ⟨#Hc, HP⟩
  iapply (wp_mono _ _ _ fun _ => h2)
  iapply (wp_frame_l _ _ _)
  isplitr; · iexact Hc
  iapply h1
  isplitr; · iexact Hc
  iexact HP

theorem Tri.frame {P R : sProp 𝕄} {p : Pr (F := F)} (G : sProp 𝕄) (h : Tri X Wt K c P p R) : Tri X Wt K c iprop(P ∗ G) p iprop(R ∗ G) := by
  unfold Tri at *
  iintro ⟨#Hc, HP, HG⟩
  iapply (wp_frame_r _ _ _)
  isplitl [HP]
  · iapply h
    isplitr; · iexact Hc
    iexact HP
  iexact HG

theorem Tri.conseq {P P' R R' : sProp 𝕄} {p : Pr (F := F)} (h : Tri X Wt K c P p R) (hP : iprop(ctx X Wt K ∗ P') ⊢ iprop(|={Set.univ}=> P))
    (hR : iprop(ctx X Wt K ∗ R) ⊢ iprop(|={Set.univ}=> R')) : Tri X Wt K c P' p R' := by
  unfold Tri at *
  iintro ⟨#Hc, HP⟩
  iapply (wp_fupd _ _ _)
  iapply (wp_mono _ _ _ fun _ => hR)
  iapply (wp_frame_l _ _ _)
  isplitr; · iexact Hc
  iapply (fupd_wp _ _ _)
  imod hP $$ [HP] with HP
  · isplitr; · iexact Hc
    iexact HP
  imodintro
  iapply h
  isplitr; · iexact Hc
  iexact HP

/-- Entailments before and after. -/
theorem Tri.weaken {P P' R R' : sProp 𝕄} {p : Pr (F := F)} (h : Tri X Wt K c P p R) (hP : P' ⊢ P) (hR : R ⊢ R') : Tri X Wt K c P' p R' :=
  h.conseq (by iintro ⟨-, H⟩; imodintro; iapply hP; iexact H) (by iintro ⟨-, H⟩; imodintro; iapply hR; iexact H)

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

/-- A loop: step `k` turns the state `A k` and its own `pre k` into `A (k + 1)` and `post k`. -/
theorem Tri.iter : ∀ {n : ℕ} (A : ℕ → sProp 𝕄) (pre post : Fin n → sProp 𝕄) {p : Fin n → Pr (F := F)},
    (∀ k : Fin n, Tri X Wt K c iprop(A k.val ∗ pre k) (p k) iprop(A (k.val + 1) ∗ post k)) →
    Tri X Wt K c iprop(A 0 ∗ bigSep Finset.univ pre) (loop n p) iprop(A n ∗ bigSep Finset.univ post)
  | 0, A, pre, post, p, h => by
    unfold Tri loop
    rw [show (pure ⟨⟩ : Pr (F := F)) = Prog.ret ⟨⟩ from rfl, wp_ret]
    iintro ⟨-, H, -⟩
    imodintro
    isplitl [H]; · iexact H
    rw [show (Finset.univ : Finset (Fin 0)) = ∅ from rfl, bigSep_empty]
    iempintro
  | n + 1, A, pre, post, p, h => by
    rw [bigSep_fin_succ pre, bigSep_fin_succ post]
    have h0 : Tri X Wt K c iprop((A 0 ∗ pre 0) ∗ bigSep Finset.univ fun k : Fin n => pre k.succ) (p 0) iprop((A 1 ∗ post 0) ∗ bigSep Finset.univ fun k : Fin n => pre k.succ) := (h 0).frame (bigSep Finset.univ fun k : Fin n => pre k.succ)
    have h1 := (Tri.iter (n := n) (fun k => A (k + 1)) (fun k => pre k.succ) (fun k => post k.succ) (p := fun k => p k.succ) fun k => h k.succ).frame (post 0)
    refine Tri.bind (M := iprop((A 1 ∗ bigSep Finset.univ fun k : Fin n => pre k.succ) ∗ post 0)) (h0.weaken ?_ ?_) (h1.weaken ?_ ?_)
    · iintro ⟨HA, H0, Hs⟩
      isplitr [Hs]
      · isplitl [HA]; · iexact HA
        iexact H0
      iexact Hs
    · iintro ⟨⟨HA, H0⟩, Hs⟩
      isplitr [H0]
      · isplitl [HA]; · iexact HA
        iexact Hs
      iexact H0
    · iintro H; iexact H
    · iintro ⟨⟨HA, Hs⟩, H0⟩
      isplitl [HA]; · iexact HA
      isplitl [H0]; · iexact H0
      iexact Hs

/-- What device `c` still owes. -/
def owe (c : Dev nD) (O : CellTallies nD τ sig Unit) : sProp 𝕄 := iprop(∃ W, owes (c : Thread nD τ) O W)

/-- A whole buffer. -/
abbrev whole (c : Dev nD) {S : Shape} {e : EltTy} (m : Memref sig .tc .vmem S e) (f : Buf (Elt F) (m.view.loc (c : Thread nD τ))) : sProp 𝕄 :=
  m.view.loc (c : Thread nD τ) ↦{fullShare} f

/-! ## Signals and waits -/

theorem signal_tri (Z : CellTallies nD τ sig Unit) (k : Fin 15) :
    Tri X Wt K c iprop(owe c (Z + owBar c k.val) ∗ (dutyTok ER (barCell (up c k)) 0 c ∗ barPay (F := F) (up c k) c)) (signal c k)
      iprop(owe c (Z + owBar c (k.val + 1)) ∗ emp) := by
  unfold Tri signal
  rw [barDev_eq]
  simp only [semSignalWord, Prog.lift]
  unfold owe
  have hO : Z + owBar c k.val = Z + owBar c (k.val + 1) + tallyAt (barCell (up c k)) () 1 := by rw [owBar_step, add_assoc]
  iintro ⟨#Hc, ⟨%W, HO⟩, Ht, Hp⟩
  iapply (Rounds.wp_signal 𝒱₀ ER (sched X Wt) (c : Thread nD τ) none (dst := (up c k : Thread nD τ)) (κ := K (up c k, none)) (r := 0) (d := c)
      (by rw [duties_bar]; exact Finset.mem_erase.mpr ⟨(up_ne c k).symm, Finset.mem_univ _⟩) ((amount_bar X Wt (up c k) c).trans (by decide)) ()
      (Z + owBar c (k.val + 1)) hO) $$ [HO Ht Hp]
  · isplitr; · iapply (ctx_inv X Wt K (up c k, none)); iexact Hc
    isplitl [HO]; · iexact HO
    isplitl [Ht]; · iexact Ht
    isplitl [Hp]; · rw [payload_bar]; iexact Hp
    iapply (ctx_reached X Wt K (up c k, none)); iexact Hc
  iintro HO
  rw [wp_ret]; imodintro
  isplitl [HO]; · iexists W; iexact HO
  iempintro

theorem gather_tri :
    Tri X Wt K c iprop(owe c (owA c 0 + owX c 0) ∗ cred (tallyAt (barCell c) () 15) ∗ atPos ER (barCell c) 0 ∅ 0) gather
      iprop(owe c (owA c 0 + owX c 0) ∗ semVal (barCell c) 0 ∗ bigSep (Finset.univ.erase c) fun p => barPay (F := F) c p) := by
  unfold Tri gather
  simp only [semWaitWord, Prog.lift]
  unfold owe
  iintro ⟨#Hc, ⟨%W, HO⟩, Hcr, Hat⟩
  iapply (Rounds.wp_wait_rest_token 𝒱₀ ER (sched X Wt) (c : Thread nD τ) none (κ := K (c, none))
      (wpE_semWait_eq 𝒱₀ (c : Thread nD τ) none Set.univ) (Set.mem_univ _) () (O := owA c 0 + owX c 0) (W := W) (R := 0) (m := 0) (T := ∅)
      (by rw [expect_bar]; decide)) $$ [HO Hcr Hat]
  · isplitr; · iapply (ctx_inv X Wt K (c, none)); iexact Hc
    isplitl [Hcr]; · iexact Hcr
    isplitl [HO]; · iexact HO
    isplitr; · iapply (ctx_mayWait X Wt K (mayWait_bar c)); iexact Hc
    iexact Hat
  iintro ⟨HO, Hat, -, Hpay⟩
  ihave Hp := (Entails.of_eq (rest_bar X Wt c)) $$ Hpay
  imod (Rounds.cell_close ER (sched X Wt) (Set.mem_univ (K (c, none))) (fun h => h) (R := 0 + 1) (duties_later X Wt (barCell c))) $$ [Hat] with Hz
  · isplitr; · iapply (ctx_inv X Wt K (c, none)); iexact Hc
    iexact Hat
  rw [wp_ret]; imodintro
  isplitl [HO]; · iexists _; iexact HO
  isplitl [Hz]; · iexact Hz
  iexact Hp

/-- The wait on a used copy cell: its copy's payment comes, and the counter is zero again. -/
theorem wait_tri {a : Fin 4} {s : Fin 16} (hu : used c a s) (O : CellTallies nD τ sig Unit)
    (hO : (levAts L lv : sProp 𝕄) ⊢ MayWait (c : Thread nD τ) (.dma (dsem a s)) () O) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (.dma (dsem a s)) (amt a) Q) :
    Tri X Wt K c iprop(owe c O ∗ cred (tallyAt (dCell c a s) () (amt a)) ∗ atPos ER (dCell c a s) 0 ∅ 0) (Prog.lift w)
      iprop(owe c O ∗ copyPay X Wt c a s ∗ semVal (dCell c a s) 0) := by
  unfold Tri
  simp only [Prog.lift]
  unfold owe
  iintro ⟨#Hc, ⟨%W, HO⟩, Hcr, Hat⟩
  iapply (Rounds.wp_wait_rest_token 𝒱₀ ER (sched X Wt) (c : Thread nD τ) none (κ := K (c, some (a, s)))
      hw (Set.mem_univ _) () (O := O) (W := W) (R := 0) (m := 0) (T := ∅)
      (by rw [expect_copy X Wt hu, Nat.zero_add])) $$ [HO Hcr Hat]
  · isplitr; · iapply (ctx_inv X Wt K (c, some (a, s))); iexact Hc
    isplitl [Hcr]; · iexact Hcr
    isplitl [HO]; · iexact HO
    isplitr; · iapply (ctx_mayWait X Wt K hO); iexact Hc
    iexact Hat
  iintro ⟨HO, Hat, -, Hpay⟩
  ihave Hp := (Entails.of_eq (rest_copy X Wt hu)) $$ Hpay
  imod (Rounds.cell_close ER (sched X Wt) (Set.mem_univ (K (c, some (a, s)))) (fun h => h) (R := 0 + 1) (duties_later X Wt (dCell c a s))) $$ [Hat] with Hz
  · isplitr; · iapply (ctx_inv X Wt K (c, some (a, s))); iexact Hc
    iexact Hat
  rw [wp_ret]; imodintro
  isplitl [HO]; · iexists _; iexact HO
  isplitl [Hp]; · iexact Hp
  iexact Hz

/-- A copy cell that is not used closes at once. -/
theorem close_unused {a : Fin 4} {s : Fin 16} (hu : ¬ used c a s) :
    iprop(ctx X Wt K ∗ atPos ER (dCell c a s) 0 ∅ 0) ⊢ (|={Set.univ}=> semVal (dCell c a s) 0 : sProp 𝕄) := by
  iintro ⟨#Hc, Hat⟩
  iapply (Rounds.cell_close ER (sched X Wt) (Set.mem_univ (K (c, some (a, s)))) (fun h => h) (R := 0) (fun r _ => by
    rcases Nat.eq_zero_or_pos r with rfl | h
    · exact duties_unused X Wt hu
    · exact duties_later X Wt _ r h))
  isplitr; · iapply (ctx_inv X Wt K (c, some (a, s))); iexact Hc
  iexact Hat

theorem mayWait_free (c : Dev nD) (sm : SemLoc sig) : (levAts L lv : sProp 𝕄) ⊢ MayWait (c : Thread nD τ) sm () 0 := by
  rw [MayWait_zero]; iintro -; iempintro

theorem used_send (k : Fin 15) (c : Dev nD) : used c 0 (nth k) := nth_ne k
theorem used_asend (k : Fin 15) (c : Dev nD) : used c 2 (nth k) := nth_ne k
theorem used_recv {c : Dev nD} {s : Fin 16} (h : s ≠ c) : used c 1 s := h
theorem used_arecv {c : Dev nD} {s : Fin 16} (h : s ≠ c) : used c 3 s := h

theorem recvA_tri (k : Fin 15) :
    Tri X Wt K c iprop(owe c 0 ∗ (cred (tallyAt (dCell c 3 (up c k)) () NA) ∗ atPos ER (dCell c 3 (up c k)) 0 ∅ 0)) (recvA c k)
      iprop(owe c 0 ∗ (aPts fullShare c (up c k) (AM X Wt) ∗ semVal (dCell c 3 (up c k)) 0)) :=
  wait_tri (used_arecv (up_ne c k)) 0 (mayWait_free c _) fun Q => (wpE_waitDma2_eq 𝒱₀ (c : Thread nD τ) none Set.univ Q).trans (by
    rw [semOf_eq 3 cc0_scratch7 rfl _ _ (up c k) ((k0_off42_eq c k).trans (by show ![(c.val + k.val + 1) % 16] = ![(c.val + 1 + k.val) % 16]; rw [Nat.add_right_comm]))]
    rfl)

theorem drainX_tri (k : Fin 15) :
    Tri X Wt K c iprop(owe c 0 ∗ (cred (tallyAt (dCell c 0 (nth k)) () NX) ∗ atPos ER (dCell c 0 (nth k)) 0 ∅ 0)) (drainX c k)
      iprop(owe c 0 ∗ (bPts c (down c k) (XB X c) ∗ semVal (dCell c 0 (nth k)) 0)) := by
  have h := wait_tri (X := X) (Wt := Wt) (K := K) (used_send k c) 0 (mayWait_free c _) (w := .waitDma2 (semOf cc0_scratch4 ![1 + k.val] (inbSem k)) (rAt (k0_off2 c) (k0_off2_inb c)) (bAt (k0_off3 c (BitVec.ofNat 32 (1 + k.val))) (k0_off3_inb c k))
    (((Memref.isWhole_whole _).wordExact_slice rfl _ (k0_off2_wordsbf16 c)).reshape _ _) ((Memref.isWhole_whole _).wordExact_slice rfl _ (k0_off3_wordsbf16 c k)))
    fun Q => (wpE_waitDma2_eq 𝒱₀ (c : Thread nD τ) none Set.univ Q).trans (by
      rw [semOf_eq 0 cc0_scratch4 rfl ![1 + k.val] (inbSem k) (nth k) rfl]
      rfl)
  rw [show copyPay X Wt c 0 (nth k) = bPts c (down c k) (XB X c) from by unfold copyPay; rw [← dest_nth]] at h
  exact h

theorem drainA_tri (k : Fin 15) :
    Tri X Wt K c iprop(owe c 0 ∗ (cred (tallyAt (dCell c 2 (nth k)) () NA) ∗ atPos ER (dCell c 2 (nth k)) 0 ∅ 0)) (drainA c k)
      iprop(owe c 0 ∗ (aPts (lend k.val) c c (AM X Wt) ∗ semVal (dCell c 2 (nth k)) 0)) := by
  have h := wait_tri (X := X) (Wt := Wt) (K := K) (used_asend k c) 0 (mayWait_free c _) (w := .waitDma2 (semOf cc0_scratch6 ![1 + k.val] (inbSem k)) (aAt (k0_off41 c) (k0_off41_inb c)) (aAt (k0_off41 c) (k0_off41_inb c))
    ((View.wordExact_bits rfl).reshape _ _) ((View.wordExact_bits rfl).reshape _ _))
    fun Q => (wpE_waitDma2_eq 𝒱₀ (c : Thread nD τ) none Set.univ Q).trans (by
      rw [semOf_eq 2 cc0_scratch6 rfl ![1 + k.val] (inbSem k) (nth k) rfl]
      rfl)
  rw [show copyPay X Wt c 2 (nth k) = aPts (lend k.val) c c (AM X Wt) from by
    unfold copyPay; rw [show (nth k).val - 1 = k.val from Nat.add_sub_cancel_left 1 k.val]] at h
  exact h

/-! ## Copies -/

/-- The windows that the body names. -/
theorem bAt_eq (off : Fin 2 → ℕ) (h) (s : Fin 16) (e : off = ![256 * s.val, 0]) : bAt off h = bRow s := by subst e; rfl
theorem rAt_eq (off : Fin 3 → ℕ) (h) (s : Fin 16) (e : off = ![s.val, 0, 0]) : rAt off h = rSlot s := by subst e; rfl
theorem aAt_eq (off : Fin 3 → ℕ) (h) (s : Fin 16) (e : off = ![s.val, 0, 0]) : aAt off h = aSlot s := by subst e; rfl

/-- A row-block copy, its operands named by what they are. -/
theorem sendX_gen (k : Fin 15) (src : Memref sig .tc .vmem S256x256 .bf16) (es : src = bRow (down c k)) (dst : Memref sig .tc .vmem S256x256 .bf16) (et : dst = rSlot c)
    (d : Dev nD) (ed : d = down c k) (sS sR : DmaSem sig) (eS : sS = dsem 0 (nth k)) (eR : sR = dsem 1 c) {hsc}
    {w1 : src.view.WordExact} {w2 : dst.view.WordExact}
    {w3 : DmaTarget.Typed .vmem (.dma sR) (.remote (Dev.tc d : Thread nD τ) dst (.dma sS) hsc)} :
    Tri X Wt K c iprop(owe c (owA c 0 + owX c k.val) ∗ (bPts c (down c k) (XB X c) ∗ (∃ f, rPts (down c k) c f)
        ∗ dutyTok ER (dCell c 0 (nth k)) 0 0 ∗ dutyTok ER (dCell (down c k) 1 c) 0 0))
      (Prog.lift (.enqueueDma src (.remote (Dev.tc d) dst (.dma sS) hsc) (.dma sR) w1 w2 w3))
      iprop(owe c (owA c 0 + owX c (k.val + 1)) ∗ cred (tallyAt (dCell c 0 (nth k)) () NX)) := by
  subst es et ed eS eR
  unfold Tri
  simp only [Prog.lift]
  unfold owe bPts rPts
  have hO : owA c 0 + owX c k.val = owA c 0 + owX c (k.val + 1) + tallyAt (dCell (down c k) 1 c) () NX := by rw [owX_step, add_assoc]
  have hd₁ : (0 : Fin 16) ∈ (sched X Wt).duties (dCell c 0 (nth k)) 0 := by rw [duties_used X Wt (used_send k c)]; exact Finset.mem_singleton_self _
  have hd₂ : (0 : Fin 16) ∈ (sched X Wt).duties (dCell (down c k) 1 c) 0 := by rw [duties_used X Wt (used_recv (down_ne c k).symm)]; exact Finset.mem_singleton_self _
  have hp₁ : bPts c (down c k) (XB X c) ⊢ (sched X Wt).payload (dCell c 0 (nth k)) 0 0 := by rw [payload_copy]; unfold copyPay; rw [dest_nth]
  have hp₂ : ∀ f : Vec F S16x256x256 .bf16, rPts (down c k) c ((rSlot c).view.write (Elt F) f ((bRow (down c k)).view.read (Elt F) (XB X c)) Finset.univ)
      ⊢ (sched X Wt).payload (dCell (down c k) 1 c) 0 0 := fun f => by
    rw [payload_copy]; unfold copyPay rPts; exact Entails.of_eq (pointsTo_congr fun i hi => land_x X c (down c k) f i hi)
  unfold bPts at hp₁
  unfold rPts at hp₂
  iintro ⟨#Hc, ⟨%W, HO⟩, Hb, ⟨%f, Hr⟩, Ht1, Ht2⟩
  iapply (Rounds.wp_send_pointsTo 𝒱₀ ER (sched X Wt) (c : Thread nD τ) none (κ₁ := K (c, some (0, nth k))) (κ₂ := K (down c k, some (1, c)))
    (c' := (down c k : Thread nD τ)) (sp' := .vmem) (src := bRow (down c k)) (dst := rSlot c) (r₁ := 0) (r₂ := 0) (d₁ := 0) (d₂ := 0) (fs := XB X c) (fd := f)
    hd₁ hd₂ () () NX rfl (amount_copy X Wt c 0 (nth k) 0) (amount_copy X Wt (down c k) 1 c 0) (owA c 0 + owX c (k.val + 1)) hO (W := W) hp₁ (hp₂ f)) $$ [HO Hb Hr Ht1 Ht2]
  · isplitr; · iapply (ctx_inv X Wt K (c, some (0, nth k))); iexact Hc
    isplitr; · iapply (ctx_inv X Wt K (down c k, some (1, c))); iexact Hc
    isplitl [Hb]; · iexact Hb
    isplitl [Hr]; · iexact Hr
    isplitl [HO]; · iexact HO
    isplitl [Ht1]; · iexact Ht1
    isplitr; · iapply (ctx_reached X Wt K (c, some (0, nth k))); iexact Hc
    isplitl [Ht2]; · iexact Ht2
    iapply (ctx_reached X Wt K (down c k, some (1, c))); iexact Hc
  iintro ⟨Hcr, HO⟩
  rw [wp_ret]; imodintro
  isplitl [HO]; · iexists W; iexact HO
  iexact Hcr

theorem sendX_tri (k : Fin 15) :
    Tri X Wt K c iprop(owe c (owA c 0 + owX c k.val) ∗ (bPts c (down c k) (XB X c) ∗ (∃ f, rPts (down c k) c f)
        ∗ dutyTok ER (dCell c 0 (nth k)) 0 0 ∗ dutyTok ER (dCell (down c k) 1 c) 0 0)) (sendX c k)
      iprop(owe c (owA c 0 + owX c (k.val + 1)) ∗ cred (tallyAt (dCell c 0 (nth k)) () NX)) :=
  sendX_gen k _ (bAt_eq _ _ _ (k0_off3_eq c k)) _ (rAt_eq _ _ _ (k0_off2_eq c)) _ (xDev_eq c k) _ _ (semOf_eq 0 cc0_scratch4 rfl ![1 + k.val] (inbSem k) (nth k) rfl)
    (semOf_eq 1 cc0_scratch5 rfl _ _ c (k0_off1_eq c))

/-- A copy of the own maximum, its operands named by what they are. -/
theorem sendA_gen (k : Fin 15) (src : Memref sig .tc .vmem S8x128 .f32) (es : src = aSlot c)
    (d : Dev nD) (ed : d = up c k) (sS sR : DmaSem sig) (eS : sS = dsem 2 (nth k)) (eR : sR = dsem 3 c) {hsc}
    {w1 : src.view.WordExact} {w2 : src.view.WordExact}
    {w3 : DmaTarget.Typed .vmem (.dma sR) (.remote (Dev.tc d : Thread nD τ) src (.dma sS) hsc)} :
    Tri X Wt K c iprop((owe c (owA c k.val) ∗ aPts (rest k.val) c c (AM X Wt)) ∗ ((∃ f, aPts fullShare (up c k) c f)
        ∗ dutyTok ER (dCell c 2 (nth k)) 0 0 ∗ dutyTok ER (dCell (up c k) 3 c) 0 0))
      (Prog.lift (.enqueueDma src (.remote (Dev.tc d) src (.dma sS) hsc) (.dma sR) w1 w2 w3))
      iprop((owe c (owA c (k.val + 1)) ∗ aPts (rest (k.val + 1)) c c (AM X Wt)) ∗ cred (tallyAt (dCell c 2 (nth k)) () NA)) := by
  subst es ed eS eR
  unfold Tri
  simp only [Prog.lift]
  unfold owe aPts
  have hd₁ : (0 : Fin 16) ∈ (sched X Wt).duties (dCell c 2 (nth k)) 0 := by rw [duties_used X Wt (used_asend k c)]; exact Finset.mem_singleton_self _
  have hd₂ : (0 : Fin 16) ∈ (sched X Wt).duties (dCell (up c k) 3 c) 0 := by rw [duties_used X Wt (used_arecv (up_ne c k).symm)]; exact Finset.mem_singleton_self _
  have hp₁ : aPts (lend k.val) c c (AM X Wt) ⊢ (sched X Wt).payload (dCell c 2 (nth k)) 0 0 := by
    rw [payload_copy]; unfold copyPay; rw [show (nth k).val - 1 = k.val from Nat.add_sub_cancel_left 1 k.val]
  have hp₂ : ∀ f : Vec F S16x8x128 .f32, aPts fullShare (up c k) c ((aSlot c).view.write (Elt F) f ((aSlot c).view.read (Elt F) (AM X Wt)) Finset.univ)
      ⊢ (sched X Wt).payload (dCell (up c k) 3 c) 0 0 := fun f => by
    rw [payload_copy]; unfold copyPay aPts; exact Entails.of_eq (pointsTo_congr fun i hi => land_a c f (AM X Wt) i hi)
  unfold aPts at hp₁ hp₂
  iintro ⟨#Hc, ⟨⟨%W, HO⟩, Ha⟩, ⟨%f, Hr⟩, Ht1, Ht2⟩
  ihave Ha' := (pointsTo_share (PosShare.mem_left_op_right (rest k.val))).1 $$ Ha
  icases Ha' with ⟨Hl, Ha⟩
  iapply (Rounds.wp_send_pointsTo 𝒱₀ ER (sched X Wt) (c : Thread nD τ) none (κ₁ := K (c, some (2, nth k))) (κ₂ := K (up c k, some (3, c)))
    (c' := (up c k : Thread nD τ)) (sp' := .vmem) (src := aSlot c) (dst := aSlot c) (r₁ := 0) (r₂ := 0) (d₁ := 0) (d₂ := 0) (fs := AM X Wt) (fd := f) (q := lend k.val)
    hd₁ hd₂ () () NA rfl (amount_copy X Wt c 2 (nth k) 0) (amount_copy X Wt (up c k) 3 c 0) (owA c (k.val + 1)) (owA_step c k) (W := W) hp₁ (hp₂ f)) $$ [HO Hl Hr Ht1 Ht2]
  · isplitr; · iapply (ctx_inv X Wt K (c, some (2, nth k))); iexact Hc
    isplitr; · iapply (ctx_inv X Wt K (up c k, some (3, c))); iexact Hc
    isplitl [Hl]; · iexact Hl
    isplitl [Hr]; · iexact Hr
    isplitl [HO]; · iexact HO
    isplitl [Ht1]; · iexact Ht1
    isplitr; · iapply (ctx_reached X Wt K (c, some (2, nth k))); iexact Hc
    isplitl [Ht2]; · iexact Ht2
    iapply (ctx_reached X Wt K (up c k, some (3, c))); iexact Hc
  iintro ⟨Hcr, HO⟩
  rw [wp_ret]; imodintro
  isplitr [Hcr]
  · isplitl [HO]; · iexists W; iexact HO
    iexact Ha
  iexact Hcr

theorem sendA_tri (k : Fin 15) :
    Tri X Wt K c iprop((owe c (owA c k.val) ∗ aPts (rest k.val) c c (AM X Wt)) ∗ ((∃ f, aPts fullShare (up c k) c f)
        ∗ dutyTok ER (dCell c 2 (nth k)) 0 0 ∗ dutyTok ER (dCell (up c k) 3 c) 0 0)) (sendA c k)
      iprop((owe c (owA c (k.val + 1)) ∗ aPts (rest (k.val + 1)) c c (AM X Wt)) ∗ cred (tallyAt (dCell c 2 (nth k)) () NA)) :=
  sendA_gen k _ (aAt_eq _ _ _ (k0_off41_eq c)) _ (amaxDev_eq c k) _ _ (semOf_eq 2 cc0_scratch6 rfl ![1 + k.val] (inbSem k) (nth k) rfl)
    (semOf_eq 3 cc0_scratch7 rfl _ _ c (k0_off1_eq c))

end Cert.KernelIdeal.Body

end
-- ==== Proof.Ideal.Compute.lean ====
/-
What the computing steps of the body do: the rounding of `x`, the device's own row block, the unpacking of the
received row blocks, the products, the maximum, the quantisation.
-/
module

public import proofs.«01_k».proof.Proof.Ideal.Steps

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## Whole buffers read and written -/

theorem read_x (f : Vec F S4096x256 .f32) :
    xM.view.readAt (Elt F) (Rect.unit (s := S4096x256) ![0, 0] S4096x256.size inb_S4096x256_S4096x256_0_0).toLoadRect f = f :=
  Memref.readAt_unit_zero (Elt F) cc0_stg0_0 hz2 _ _
theorem read_s (f : Vec F S256x1024 .f32) :
    sM.view.readAt (Elt F) (Rect.unit (s := S256x1024) ![0, 0] S256x1024.size inb_S256x1024_S256x1024_0_0).toLoadRect f = f :=
  Memref.readAt_unit_zero (Elt F) cc0_scratch2 hz2 _ _
theorem read_o (f : Vec F S256x2048 .f32) :
    oM.view.readAt (Elt F) (Rect.unit (s := S256x2048) ![0, 0] S256x2048.size inb_S256x2048_S256x2048_0_0).toLoadRect f = f :=
  Memref.readAt_unit_zero (Elt F) cc0_stg2_0 hz2 _ _
theorem read_a (f : Vec F S16x8x128 .f32) :
    aM.view.readAt (Elt F) (Rect.unit (s := S16x8x128) ![0, 0, 0] S16x8x128.size inb_S16x8x128_S16x8x128_0_0_0).toLoadRect f = f :=
  Memref.readAt_unit_zero (Elt F) cc0_scratch3 hz3 _ _
theorem write_b (f w : Vec F S4096x256 .bf16) :
    (bM.access (Rect.unit (s := S4096x256) ![0, 0] S4096x256.size inb_S4096x256_S4096x256_0_0)).write (Elt F) f w Finset.univ = w :=
  Memref.write_access_unit_zero_univ (Elt F) cc0_scratch0 hz2 _ _ _
theorem write_o (f w : Vec F S256x2048 .f32) :
    (oM.access (Rect.unit (s := S256x2048) ![0, 0] S256x2048.size inb_S256x2048_S256x2048_0_0)).write (Elt F) f w Finset.univ = w :=
  Memref.write_access_unit_zero_univ (Elt F) cc0_stg2_0 hz2 _ _ _

/-! ## The elements that a slot's rectangle covers -/

theorem loadB_sub (s : Fin 16) :
    bM.view.setOn (Rect.unit (s := S4096x256) ![256 * s.val, 0] S256x256.size (inbRow s)).toLoadRect.set ⊆ (bRow s).view.set := by
  have h : (bRow s).view.set = _ := View.set_slice _ _
  rw [h]
  exact subset_rfl

theorem accessR_set (s : Fin 16) :
    (rM.access (Rect.unit (s := S16x256x256) ![s.val, 0, 0] S1x256x256.size (inbSlotX s))).set = (rSlot s).view.set :=
  (View.set_reshape _ _).symm

theorem loadR_sub (s : Fin 16) :
    rM.view.setOn (Rect.unit (s := S16x256x256) ![s.val, 0, 0] S1x256x256.size (inbSlotX s)).toLoadRect.set ⊆ (rSlot s).view.set := by
  have h := (accessR_set s).subset
  rwa [View.set_slice] at h

theorem accessA_set (s : Fin 16) :
    (aM.access (Rect.unit (s := S16x8x128) ![s.val, 0, 0] S1x8x128.size (inbSlotA s))).set = (aSlot s).view.set :=
  (View.set_reshape _ _).symm

theorem loadA_sub (s : Fin 16) :
    aM.view.setOn (Rect.unit (s := S16x8x128) ![s.val, 0, 0] S1x8x128.size (inbSlotA s)).toLoadRect.set ⊆ (aSlot s).view.set := by
  have h := (accessA_set s).subset
  rwa [View.set_slice] at h

variable {X : Dev nD → Vec F S4096x256 .f32} {Wt : Dev nD → Vec F S4096x2048 .f32} {K : Names} {c : Dev nD}

/-! ## Rounding, and the own row block -/

theorem narrow_tri (f : Vec F S4096x256 .bf16) :
    Tri X Wt K c iprop(whole c xM (X c) ∗ whole c bM f) narrow iprop(whole c xM (X c) ∗ whole c bM (XB X c)) := by
  unfold Tri narrow
  simp -proj only [Prog.bind_op, Prog.bind_ret, Prog.lift]
  iintro ⟨-, Hx, Hb⟩
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := Rect.unit (s := S4096x256) ![0, 0] S4096x256.size inb_S4096x256_S4096x256_0_0) (Mk := Finset.univ) (Finset.subset_univ _)) $$ Hb; iintro Hb
  rw [read_x, write_b, wp_ret]
  imodintro
  isplitl [Hx]; · iexact Hx
  iexact Hb

/-- The own row block, its offsets named by what they are. -/
theorem keepOwn_gen (off4 : Fin 2 → ℕ) (h4) (e4 : off4 = ![256 * c.val, 0]) (off5 : Fin 3 → ℕ) (h5) (e5 : off5 = ![c.val, 0, 0])
    {p1 : bM.view.LoadsAt (Rect.unit (s := S4096x256) off4 S256x256.size h4).toLoadRect}
    {p2 : rM.view.LoadsAt (Rect.unit (s := S16x256x256) off5 S1x256x256.size h5).toLoadRect}
    {p3 : (rM.access (Rect.unit (s := S16x256x256) off5 S1x256x256.size h5)).Stores Finset.univ} {p4} :
    Tri X Wt K c iprop(bPts c c (XB X c) ∗ ∃ f, rPts c c f)
      (do
        let v ← Prog.lift (.load bM (Rect.unit (s := S4096x256) off4 S256x256.size h4).toLoadRect p1)
        let _ ← Prog.lift (.load rM (Rect.unit (s := S16x256x256) off5 S1x256x256.size h5).toLoadRect p2)
        Prog.lift (.store rM (Rect.unit (s := S16x256x256) off5 S1x256x256.size h5) (k0_pay3 (k0_pay2 v)) Finset.univ p3 p4))
      iprop(bPts c c (XB X c) ∗ rPts c c (XR X c)) := by
  subst e4 e5
  have hk : ∀ f : Vec F S16x256x256 .bf16,
      rPts c c ((rM.access (Rect.unit (s := S16x256x256) ![c.val, 0, 0] S1x256x256.size (inbSlotX c))).write (Elt F) f
        (k0_pay3 (k0_pay2 (bM.view.readAt (Elt F) (Rect.unit (s := S4096x256) ![256 * c.val, 0] S256x256.size (inbRow c)).toLoadRect (XB X c)))) Finset.univ)
      ⊢ (rPts c c (XR X c) : sProp 𝕄) := fun f => Entails.of_eq (pointsTo_congr fun i hi => keep_x X c f i hi)
  unfold Tri
  unfold bPts rPts at *
  simp -proj only [Prog.bind_op, Prog.bind_ret, Prog.lift]
  iintro ⟨-, Hb, ⟨%f, Hr⟩⟩
  iapply (wp_load 𝒱₀ (c : Thread nD τ) none Set.univ (m := bM) (loadB_sub c)) $$ Hb; iintro Hb
  iapply (wp_load 𝒱₀ (c : Thread nD τ) none Set.univ (m := rM) (loadR_sub c)) $$ Hr; iintro Hr
  iapply (wp_store 𝒱₀ (c : Thread nD τ) none Set.univ (m := rM) (r := Rect.unit (s := S16x256x256) ![c.val, 0, 0] S1x256x256.size (inbSlotX c)) (Mk := Finset.univ) (accessR_set c).subset) $$ Hr; iintro Hr
  rw [wp_ret]
  imodintro
  isplitl [Hb]; · iexact Hb
  iapply (hk f)
  iexact Hr

theorem keepOwn_tri : Tri X Wt K c iprop(bPts c c (XB X c) ∗ ∃ f, rPts c c f) (keepOwn c) iprop(bPts c c (XB X c) ∗ rPts c c (XR X c)) :=
  keepOwn_gen _ _ (k0_off4_eq c) _ _ (k0_off5_eq c)

/-! ## The received row blocks -/

/-- That a guard is slot `s`'s: it holds unless the slot is the device's own, and it names the slot's cell and the slot. -/
structure Guard.Is (g : Guard) (c : Dev nD) (s : Fin 16) : Prop where
  on : g.on = 1#1 ↔ s ≠ c
  sem : g.sem = ![s.val]
  slot : g.slot = ![s.val, 0, 0]

/-- What device `c` holds for slot `s` before its wait: the own slot filled, another's credit. -/
def early (X : Dev nD → Vec F S4096x256 .f32) (c : Dev nD) (s : Fin 16) : sProp 𝕄 :=
  iprop((if s = c then rPts c s (XR X c) else cred (tallyAt (dCell c 1 s) () NX)) ∗ atPos ER (dCell c 1 s) 0 ∅ 0)

theorem await_tri {g : Guard} {s : Fin 16} (hg : g.Is c s) :
    Tri X Wt K c iprop(owe c (owA c 0) ∗ early X c s) (await g) iprop(owe c (owA c 0) ∗ rPts c s (XR X c) ∗ semVal (dCell c 1 s) 0) := by
  unfold await guarded early
  by_cases h : s = c
  · have hn : ¬ g.on = 1#1 := fun h' => hg.on.mp h' h
    rw [dif_neg hn, if_pos h]
    refine Tri.conseq (P := iprop(owe c (owA c 0) ∗ rPts c s (XR X c) ∗ semVal (dCell c 1 s) 0)) (R := iprop(owe c (owA c 0) ∗ rPts c s (XR X c) ∗ semVal (dCell c 1 s) 0)) ?_ ?_ ?_
    · unfold Tri
      iintro ⟨-, H⟩
      rw [wp_ret]; imodintro
      iexact H
    · iintro ⟨#Hc, HO, Hr, Hat⟩
      imod (close_unused (c := c) (a := 1) (s := s) (X := X) (Wt := Wt) (K := K) (fun h' => h' h)) $$ [Hat] with Hz
      · isplitr; · iexact Hc
        iexact Hat
      imodintro
      isplitl [HO]; · iexact HO
      isplitl [Hr]; · iexact Hr
      iexact Hz
    · iintro ⟨-, H⟩
      imodintro
      iexact H
  · have hp : g.on = 1#1 := hg.on.mpr h
    rw [dif_pos hp, if_neg h]
    exact wait_tri (used_recv h) (owA c 0) (mayWait_x c s) fun Q => (wpE_waitDma2_eq 𝒱₀ (c : Thread nD τ) none Set.univ Q).trans (by
      rw [semOf_eq 1 cc0_scratch5 rfl _ _ s hg.sem]; rfl)

/-- The columns below `r` of the unpacked group are in place. -/
def upto (X : Dev nD → Vec F S4096x256 .f32) (c : Dev nD) (j : Fin 4) (r : ℕ) : sProp 𝕄 :=
  iprop(∃ f : Vec F S256x1024 .f32, ⌜∀ i : S256x1024.Idx, (i 1).val < 256 * r → f i = SG X c j i⌝ ∗ whole c sM f)

/-- The unpacking of a row block, its offset named by what it is. -/
theorem unpack_gen (j r : Fin 4) (off : Fin 3 → ℕ) (h) (e : off = ![(slotOf c j r).val, 0, 0])
    {p1 : rM.view.LoadsAt (Rect.unit (s := S16x256x256) off S1x256x256.size h).toLoadRect} {p2} {p3} {p4} :
    Tri X Wt K c iprop(rPts c (slotOf c j r) (XR X c) ∗ upto X c j r.val)
      (do
        let v ← Prog.lift (.load rM (Rect.unit (s := S16x256x256) off S1x256x256.size h).toLoadRect p1)
        let _ ← Prog.lift (.load sM (Rect.unit (s := S256x1024) ![0, 256 * r.val] S256x256.size (inbCol r)).toLoadRect p2)
        Prog.lift (.store sM (Rect.unit (s := S256x1024) ![0, 256 * r.val] S256x256.size (inbCol r)) (widen v) Finset.univ p3 p4))
      iprop(rPts c (slotOf c j r) (XR X c) ∗ upto X c j (r.val + 1)) := by
  subst e
  unfold Tri rPts upto
  simp -proj only [Prog.bind_op, Prog.bind_ret, Prog.lift]
  iintro ⟨-, Hr, ⟨%f, %hf, Hs⟩⟩
  iapply (wp_load 𝒱₀ (c : Thread nD τ) none Set.univ (m := rM) (loadR_sub (slotOf c j r))) $$ Hr; iintro Hr
  iapply (wp_load 𝒱₀ (c : Thread nD τ) none Set.univ (m := sM) (Finset.subset_univ _)) $$ Hs; iintro Hs
  iapply (wp_store 𝒱₀ (c : Thread nD τ) none Set.univ (m := sM) (r := Rect.unit (s := S256x1024) ![0, 256 * r.val] S256x256.size (inbCol r)) (Mk := Finset.univ) (Finset.subset_univ _)) $$ Hs; iintro Hs
  rw [wp_ret, load_x X c (slotOf c j r)]
  imodintro
  isplitl [Hr]; · iexact Hr
  iexists _
  isplitr
  · ipureintro; exact fun i hi => put_col X c j r f hf i hi
  iexact Hs

theorem take_tri {g : Guard} (j r : Fin 4) (hg : g.Is c (slotOf c j r)) :
    Tri X Wt K c iprop((owe c (owA c 0) ∗ upto X c j r.val) ∗ early X c (slotOf c j r)) (take c g j r)
      iprop((owe c (owA c 0) ∗ upto X c j (r.val + 1)) ∗ (rPts c (slotOf c j r) (XR X c) ∗ semVal (dCell c 1 (slotOf c j r)) 0)) := by
  unfold take
  refine Tri.bind (M := iprop((rPts c (slotOf c j r) (XR X c) ∗ upto X c j r.val) ∗ owe c (owA c 0) ∗ semVal (dCell c 1 (slotOf c j r)) 0))
    (((await_tri hg).frame (upto X c j r.val)).weaken ?_ ?_)
    (((unpack_gen j r _ _ (k0_off8_eq c j r)).frame iprop(owe c (owA c 0) ∗ semVal (dCell c 1 (slotOf c j r)) 0)).weaken ?_ ?_)
  · iintro ⟨⟨HO, Hu⟩, He⟩
    isplitr [Hu]
    · isplitl [HO]; · iexact HO
      iexact He
    iexact Hu
  · iintro ⟨⟨HO, Hr, Hz⟩, Hu⟩
    isplitr [HO Hz]
    · isplitl [Hr]; · iexact Hr
      iexact Hu
    isplitl [HO]; · iexact HO
    iexact Hz
  · iintro H; iexact H
  · iintro ⟨⟨Hr, Hu⟩, HO, Hz⟩
    isplitl [HO Hu]
    · isplitl [HO]; · iexact HO
      iexact Hu
    isplitl [Hr]; · iexact Hr
    iexact Hz

/-- A guard is a slot's if its guard, its cell and its slot are. -/
theorem Guard.is_of {g : Guard} {c : Dev nD} {s : Fin 16} {a : ℕ} (ha : a = s.val) (h1 : g.on = 1#1 ↔ s ≠ c) (h2 : g.sem = ![a]) (h3 : g.slot = ![a, 0, 0]) : g.Is c s := by
  subst ha; exact ⟨h1, h2, h3⟩

theorem guards0_is (c : Dev nD) (r : Fin 4) : (guards0 c r).Is c (slotOf c 0 r) := by
  fin_cases r
  · exact Guard.is_of (by show _ = 4 * ((c.val / 4 + 0) % 4) + 0; have h : c.val < 16 := c.isLt; omega) (by revert c; decide +kernel) (k0_off6_eq c) (k0_off7_eq c)
  · exact Guard.is_of (by show _ = 4 * ((c.val / 4 + 0) % 4) + 1; have h : c.val < 16 := c.isLt; omega) (by revert c; decide +kernel) (k0_off9_eq c) (k0_off10_eq c)
  · exact Guard.is_of (by show _ = 4 * ((c.val / 4 + 0) % 4) + 2; have h : c.val < 16 := c.isLt; omega) (by revert c; decide +kernel) (k0_off11_eq c) (k0_off12_eq c)
  · exact Guard.is_of (by show _ = 4 * ((c.val / 4 + 0) % 4) + 3; have h : c.val < 16 := c.isLt; omega) (by revert c; decide +kernel) (k0_off13_eq c) (k0_off14_eq c)

theorem guards1_is (c : Dev nD) (r : Fin 4) : (guards1 c r).Is c (slotOf c 1 r) := by
  fin_cases r
  · exact Guard.is_of rfl (by revert c; decide +kernel) (k0_off16_eq c) (k0_off17_eq c)
  · exact Guard.is_of rfl (by revert c; decide +kernel) (k0_off18_eq c) (k0_off19_eq c)
  · exact Guard.is_of rfl (by revert c; decide +kernel) (k0_off20_eq c) (k0_off21_eq c)
  · exact Guard.is_of rfl (by revert c; decide +kernel) (k0_off22_eq c) (k0_off23_eq c)

theorem guards2_is (c : Dev nD) (r : Fin 4) : (guards2 c r).Is c (slotOf c 2 r) := by
  fin_cases r
  · exact Guard.is_of rfl (by revert c; decide +kernel) (k0_off24_eq c) (k0_off25_eq c)
  · exact Guard.is_of rfl (by revert c; decide +kernel) (k0_off26_eq c) (k0_off27_eq c)
  · exact Guard.is_of rfl (by revert c; decide +kernel) (k0_off28_eq c) (k0_off29_eq c)
  · exact Guard.is_of rfl (by revert c; decide +kernel) (k0_off30_eq c) (k0_off31_eq c)

theorem guards3_is (c : Dev nD) (r : Fin 4) : (guards3 c r).Is c (slotOf c 3 r) := by
  fin_cases r
  · exact Guard.is_of rfl (by revert c; decide +kernel) (k0_off32_eq c) (k0_off33_eq c)
  · exact Guard.is_of rfl (by revert c; decide +kernel) (k0_off34_eq c) (k0_off35_eq c)
  · exact Guard.is_of rfl (by revert c; decide +kernel) (k0_off36_eq c) (k0_off37_eq c)
  · exact Guard.is_of rfl (by revert c; decide +kernel) (k0_off38_eq c) (k0_off39_eq c)

/-- All columns in place: the group is unpacked. -/
theorem upto_all (c : Dev nD) (j : Fin 4) : upto X c j 4 ⊢ (whole c sM (SG X c j) : sProp 𝕄) := by
  unfold upto
  iintro ⟨%f, %hf, Hs⟩
  rw [show f = SG X c j from funext fun i => hf i (by have : (i 1).val < 1024 := (i 1).isLt; omega)]
  iexact Hs

theorem upto_none (c : Dev nD) (j : Fin 4) (f : Vec F S256x1024 .f32) : (whole c sM f : sProp 𝕄) ⊢ upto X c j 0 := by
  unfold upto
  iintro Hs
  iexists f
  isplitr
  · ipureintro; intro i hi; exact absurd hi (by omega)
  iexact Hs

/-! ## The products, the maximum, the quantisation -/

theorem mulFirst_tri (y : Vec F S256x2048 .f32) :
    Tri X Wt K c iprop(whole c sM (SG X c 0) ∗ whole c wM (Wt c) ∗ whole c oM y) (mulFirst c)
      iprop(whole c sM (SG X c 0) ∗ whole c wM (Wt c) ∗ whole c oM (Y1 X Wt c)) := by
  unfold Tri mulFirst
  simp -proj only [Prog.bind_op, Prog.bind_ret, Prog.lift]
  iintro ⟨-, Hs, Hw, Ho⟩
  iapply (wp_load 𝒱₀ (c : Thread nD τ) none Set.univ (m := sM) (Finset.subset_univ _)) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S256x2048) ![0, 0] S256x2048.size inb_S256x2048_S256x2048_0_0) (Mk := Finset.univ) (Finset.subset_univ _)) $$ Ho; iintro Ho
  rw [read_s, write_o, wp_ret]
  imodintro
  isplitl [Hs]; · iexact Hs
  isplitl [Hw]; · iexact Hw
  iexact Ho

theorem mulAdd2_tri (j : Fin 4) (y : Vec F S256x2048 .f32) :
    Tri X Wt K c iprop(whole c sM (SG X c j) ∗ whole c wM (Wt c) ∗ whole c oM y) (mulAdd2 c j)
      iprop(whole c sM (SG X c j) ∗ whole c wM (Wt c) ∗ whole c oM (k0_pay13 (SG X c j) (WG Wt c j) y)) := by
  unfold Tri mulAdd2
  simp -proj only [Prog.bind_op, Prog.bind_ret, Prog.lift]
  iintro ⟨-, Hs, Hw, Ho⟩
  iapply (wp_load 𝒱₀ (c : Thread nD τ) none Set.univ (m := sM) (Finset.subset_univ _)) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S256x2048) ![0, 0] S256x2048.size inb_S256x2048_S256x2048_0_0) (Mk := Finset.univ) (Finset.subset_univ _)) $$ Ho; iintro Ho
  rw [read_s, read_o, write_o, wp_ret]
  imodintro
  isplitl [Hs]; · iexact Hs
  isplitl [Hw]; · iexact Hw
  iexact Ho

/-- The own maximum, its offset named by what it is. -/
theorem localMax_gen (off : Fin 3 → ℕ) (h) (e : off = ![c.val, 0, 0]) {p1} {p2 : aM.view.LoadsAt (Rect.unit (s := S16x8x128) off S1x8x128.size h).toLoadRect}
    {p3 : (aM.access (Rect.unit (s := S16x8x128) off S1x8x128.size h)).Stores Finset.univ} {p4} :
    Tri X Wt K c iprop(whole c oM (Y4 X Wt c) ∗ ∃ f, aPts fullShare c c f)
      (do
        let y ← Prog.lift (.load oM (Rect.unit (s := S256x2048) ![0, 0] S256x2048.size inb_S256x2048_S256x2048_0_0).toLoadRect p1)
        let _ ← Prog.lift (.load aM (Rect.unit (s := S16x8x128) off S1x8x128.size h).toLoadRect p2)
        Prog.lift (.store aM (Rect.unit (s := S16x8x128) off S1x8x128.size h) (k0_pay25 y) Finset.univ p3 p4))
      iprop(whole c oM (Y4 X Wt c) ∗ aPts fullShare c c (AM X Wt)) := by
  subst e
  unfold Tri aPts
  simp -proj only [Prog.bind_op, Prog.bind_ret, Prog.lift]
  iintro ⟨-, Ho, ⟨%f, Ha⟩⟩
  iapply (wp_load 𝒱₀ (c : Thread nD τ) none Set.univ (m := oM) (Finset.subset_univ _)) $$ Ho; iintro Ho
  iapply (wp_load 𝒱₀ (c : Thread nD τ) none Set.univ (m := aM) (loadA_sub c)) $$ Ha; iintro Ha
  iapply (wp_store 𝒱₀ (c : Thread nD τ) none Set.univ (m := aM) (r := Rect.unit (s := S16x8x128) ![c.val, 0, 0] S1x8x128.size (inbSlotA c)) (Mk := Finset.univ) (accessA_set c).subset) $$ Ha; iintro Ha
  rw [read_o, wp_ret]
  imodintro
  isplitl [Ho]; · iexact Ho
  ihave Ha := (Entails.of_eq (pointsTo_congr fun i hi => keep_a X Wt c f i hi)) $$ Ha
  iexact Ha

theorem localMax_tri : Tri X Wt K c iprop(whole c oM (Y4 X Wt c) ∗ ∃ f, aPts fullShare c c f) (localMax c)
    iprop(whole c oM (Y4 X Wt c) ∗ aPts fullShare c c (AM X Wt)) :=
  localMax_gen _ _ (k0_off40_eq c)

theorem quantise_tri (q : PosShare TreeShare) :
    Tri X Wt K c iprop(whole c oM (Y4 X Wt c) ∗ (aM.view.loc (c : Thread nD τ) ↦{q} AM X Wt)) quantise
      iprop(whole c oM (OutV X Wt c) ∗ (aM.view.loc (c : Thread nD τ) ↦{q} AM X Wt)) := by
  unfold Tri quantise
  simp -proj only [Prog.bind_op, Prog.bind_ret, Prog.lift]
  iintro ⟨-, Ho, Ha⟩
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S256x2048) ![0, 0] S256x2048.size inb_S256x2048_S256x2048_0_0) (Mk := Finset.univ) (Finset.subset_univ _)) $$ Ho; iintro Ho
  rw [read_a, read_o, write_o, wp_ret]
  imodintro
  isplitl [Ho]; · iexact Ho
  iexact Ha

end Cert.KernelIdeal.Body

end
-- ==== Proof.Ideal.Body.lean ====
/-
The whole body of one device: from its tokens, positions, credits and buffers to its result, every cell at zero again.
-/
module

public import proofs.«01_k».proof.Proof.Ideal.Compute

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

theorem sep_eq {P Q : sProp 𝕄} (h1 : P ⊢ Q) (h2 : Q ⊢ P) : P = Q := BI.equiv_iff.mp ⟨h1, h2⟩

/-! ## A family over sixteen, split -/

theorem split_up (c : Dev nD) (Φ : Fin 16 → sProp 𝕄) : bigSep Finset.univ Φ = iprop(Φ c ∗ bigSep Finset.univ fun k : Fin 15 => Φ (up c k)) := by
  rw [BI.bigSep_erase (Finset.mem_univ (c : Fin 16)), show (Finset.univ : Finset (Fin 16)).erase c = _ from up_image c, BI.bigSep_map]; rfl
theorem split_down (c : Dev nD) (Φ : Fin 16 → sProp 𝕄) : bigSep Finset.univ Φ = iprop(Φ c ∗ bigSep Finset.univ fun k : Fin 15 => Φ (down c k)) := by
  rw [BI.bigSep_erase (Finset.mem_univ (c : Fin 16)), show (Finset.univ : Finset (Fin 16)).erase c = _ from down_image c, BI.bigSep_map]; rfl
theorem split_nth (Φ : Fin 16 → sProp 𝕄) : bigSep Finset.univ Φ = iprop(Φ 0 ∗ bigSep Finset.univ fun k : Fin 15 => Φ (nth k)) := by
  rw [BI.bigSep_erase (Finset.mem_univ (0 : Fin 16)), nth_image, BI.bigSep_map]; rfl
theorem others_up (c : Dev nD) (Φ : Dev nD → sProp 𝕄) : bigSep (Finset.univ.erase c) Φ = bigSep Finset.univ fun k : Fin 15 => Φ (up c k) := by
  rw [up_image c, BI.bigSep_map]; rfl
theorem others_down (c : Dev nD) (Φ : Dev nD → sProp 𝕄) : bigSep (Finset.univ.erase c) Φ = bigSep Finset.univ fun k : Fin 15 => Φ (down c k) := by
  rw [down_image c, BI.bigSep_map]; rfl

/-- The sixteen slots by group and place within the group. -/
def slots (c : Dev nD) : Fin 4 × Fin 4 ≃ Fin 16 :=
  Equiv.ofBijective (fun p => slotOf c p.1 p.2) ((Fintype.bijective_iff_injective_and_card _).mpr ⟨by
    rintro ⟨j, r⟩ ⟨j', r'⟩ h
    have h' : 4 * ((c.val / 4 + j.val) % 4) + r.val = 4 * ((c.val / 4 + j'.val) % 4) + r'.val := congrArg Fin.val h
    refine Prod.ext (Fin.ext ?_) (Fin.ext ?_)
    · show j.val = j'.val; omega
    · show r.val = r'.val; omega, by simp⟩)

theorem split_slots (c : Dev nD) (Φ : Fin 16 → sProp 𝕄) :
    bigSep Finset.univ Φ = bigSep Finset.univ fun j : Fin 4 => bigSep Finset.univ fun r : Fin 4 => Φ (slotOf c j r) := by
  rw [BI.bigSep_univ_equiv (slots c), BI.bigSep_univ_prod]; rfl

theorem bigSep_four (Φ : Fin 4 → sProp 𝕄) : bigSep Finset.univ Φ = iprop(Φ 0 ∗ Φ 1 ∗ Φ 2 ∗ Φ 3) := by
  rw [bigSep_fin_succ, bigSep_fin_succ, bigSep_fin_succ, bigSep_fin_succ, show (Finset.univ : Finset (Fin 0)) = ∅ from rfl, bigSep_empty]
  show iprop(Φ 0 ∗ Φ 1 ∗ Φ 2 ∗ Φ 3 ∗ BI.emp) = _
  refine sep_eq ?_ ?_
  · iintro ⟨H0, H1, H2, H3, -⟩
    isplitl [H0]; · iexact H0
    isplitl [H1]; · iexact H1
    isplitl [H2]; · iexact H2
    iexact H3
  · iintro ⟨H0, H1, H2, H3⟩
    isplitl [H0]; · iexact H0
    isplitl [H1]; · iexact H1
    isplitl [H2]; · iexact H2
    isplitl [H3]; · iexact H3
    iempintro

/-! ## Whole buffers and their slots -/

/-- A buffer whose elements each lie in one of sixteen parts is the sixteen parts. -/
theorem parts (ℓ : Loc nD τ sig) (q : PosShare TreeShare) (f : Buf (Elt F) ℓ) (P : Fin 16 → Finset (Idx ℓ)) (idx : Idx ℓ → Fin 16)
    (h : ∀ s i, i ∈ P s ↔ idx i = s) : (ℓ ↦{q} f : sProp 𝕄) = bigSep Finset.univ fun s : Fin 16 => ℓ ↦[P s]{q} f := by
  have hu : (Finset.univ : Finset (Idx ℓ)) = Finset.univ.biUnion P := by
    ext i
    exact ⟨fun _ => Finset.mem_biUnion.mpr ⟨idx i, Finset.mem_univ _, (h _ i).mpr rfl⟩, fun _ => Finset.mem_univ i⟩
  exact (congrArg (fun S => (ℓ ↦[S]{q} f : sProp 𝕄)) hu).trans (pointsTo_biUnion Finset.univ P fun s _ s' _ hs =>
    Finset.disjoint_left.mpr fun i hi hi' => hs (((h s i).mp hi).symm.trans ((h s' i).mp hi')))

theorem whole_b (c : Dev nD) (f : Vec F S4096x256 .bf16) : (whole c bM f : sProp 𝕄) = bigSep Finset.univ fun s : Fin 16 => bPts c s f := by
  refine parts (bM.view.loc (c : Thread nD τ)) fullShare f (fun s => (bRow s).view.set)
    (fun i : S4096x256.Idx => ⟨(i 0).val / 256, by have h : (i 0).val < 4096 := (i 0).isLt; omega⟩) fun s i => ?_
  exact (mem_bRow s i).trans ⟨fun h => Fin.ext h, fun h => congrArg Fin.val h⟩

theorem whole_r (c : Dev nD) (f : Vec F S16x256x256 .bf16) : (whole c rM f : sProp 𝕄) = bigSep Finset.univ fun s : Fin 16 => rPts c s f := by
  refine parts (rM.view.loc (c : Thread nD τ)) fullShare f (fun s => (rSlot s).view.set) (fun i : S16x256x256.Idx => i 0) fun s i => ?_
  exact (mem_rSlot s i).trans Fin.ext_iff.symm

theorem whole_a (q : PosShare TreeShare) (c : Dev nD) (f : Vec F S16x8x128 .f32) :
    (aM.view.loc (c : Thread nD τ) ↦{q} f : sProp 𝕄) = bigSep Finset.univ fun s : Fin 16 => aPts q c s f := by
  refine parts (aM.view.loc (c : Thread nD τ)) q f (fun s => (aSlot s).view.set) (fun i : S16x8x128.Idx => i 0) fun s i => ?_
  exact (mem_aSlot s i).trans Fin.ext_iff.symm

/-- A slot of the maxima at the full share is its two halves. -/
theorem halves (c : Dev nD) (s : Fin 16) (f : Vec F S16x8x128 .f32) :
    (aPts fullShare c s f : sProp 𝕄) = iprop(aPts fullShare.left c s f ∗ aPts fullShare.right c s f) := by
  unfold aPts
  exact sep_eq (pointsTo_share (PosShare.mem_left_op_right fullShare)).1 (pointsTo_share (PosShare.mem_left_op_right fullShare)).2

/-- What was lent of the own maximum and what was left make up what there was. -/
theorem lent_back (c : Dev nD) (s : Fin 16) (f : Vec F S16x8x128 .f32) : ∀ n : ℕ,
    iprop(aPts (rest n) c s f ∗ bigSep Finset.univ fun k : Fin n => aPts (lend k.val) c s f) ⊢ (aPts fullShare.right c s f : sProp 𝕄)
  | 0 => by
    iintro ⟨H, -⟩; iexact H
  | n + 1 => by
    have ih := lent_back c s f n
    have hsp : (bigSep Finset.univ fun k : Fin (n + 1) => (aPts (lend k.val) c s f : sProp 𝕄))
        = iprop((bigSep Finset.univ fun k : Fin n => aPts (lend k.val) c s f) ∗ aPts (lend n) c s f) := by
      rw [Fin.univ_castSuccEmb, Finset.cons_eq_insert, BI.bigSep_insert (by simp), BI.bigSep_map]
      show iprop(aPts (lend n) c s f ∗ bigSep Finset.univ fun k : Fin n => aPts (lend k.val) c s f) = _
      refine sep_eq ?_ ?_
      · iintro ⟨Hl, Hs⟩
        isplitl [Hs]; · iexact Hs
        iexact Hl
      · iintro ⟨Hs, Hl⟩
        isplitl [Hl]; · iexact Hl
        iexact Hs
    rw [hsp]
    have hj : iprop(aPts (lend n) c s f ∗ aPts (rest (n + 1)) c s f) ⊢ (aPts (rest n) c s f : sProp 𝕄) := by
      unfold aPts; exact (pointsTo_share (PosShare.mem_left_op_right (rest n))).2
    iintro ⟨Hr, Hs, Hl⟩
    iapply ih
    isplitl [Hr Hl]
    · iapply hj
      isplitl [Hl]; · iexact Hl
      iexact Hr
    iexact Hs

/-! ## Before and after -/

/-- The tokens of the payments that device `c` makes. -/
def toks (c : Dev nD) : sProp 𝕄 :=
  iprop((bigSep Finset.univ fun k : Fin 15 => dutyTok ER (barCell (up c k)) 0 c)
    ∗ (bigSep Finset.univ fun k : Fin 15 => dutyTok ER (dCell c 0 (nth k)) 0 0)
    ∗ (bigSep Finset.univ fun k : Fin 15 => dutyTok ER (dCell (down c k) 1 c) 0 0)
    ∗ (bigSep Finset.univ fun k : Fin 15 => dutyTok ER (dCell c 2 (nth k)) 0 0)
    ∗ bigSep Finset.univ fun k : Fin 15 => dutyTok ER (dCell (up c k) 3 c) 0 0)
/-- Its positions on its own cells. -/
def ats (c : Dev nD) : sProp 𝕄 :=
  iprop(atPos ER (barCell c) 0 ∅ 0 ∗ bigSep Finset.univ fun a : Fin 4 => bigSep Finset.univ fun s : Fin 16 => atPos ER (dCell c a s) 0 ∅ 0)
/-- The credits of what the other devices owe it. -/
def creds (c : Dev nD) : sProp 𝕄 :=
  iprop(cred (tallyAt (barCell c) () 15) ∗ (bigSep Finset.univ fun k : Fin 15 => cred (tallyAt (dCell c 1 (up c k)) () NX))
    ∗ bigSep Finset.univ fun k : Fin 15 => cred (tallyAt (dCell c 3 (up c k)) () NA))
/-- All its cells at zero. -/
def zeros (c : Dev nD) : sProp 𝕄 :=
  iprop(semVal (barCell c) 0 ∗ bigSep Finset.univ fun a : Fin 4 => bigSep Finset.univ fun s : Fin 16 => semVal (dCell c a s) 0)

/-- The four buffers that the kernel keeps to itself. -/
def scratch (c : Dev nD) : sProp 𝕄 :=
  iprop((∃ f, whole c bM f) ∗ (∃ f, whole c rM f) ∗ (∃ f, whole c sM f) ∗ ∃ f, whole c aM f)

variable {X : Dev nD → Vec F S4096x256 .f32} {Wt : Dev nD → Vec F S4096x2048 .f32} {K : Names} {c : Dev nD}

/-- A triple at the head of a program. -/
theorem run_tri {P R : sProp 𝕄} {p : Pr (F := F)} (h : Tri X Wt K c P p R) {q : Pr (F := F)} {Q : PUnit → sProp 𝕄} :
    iprop(ctx X Wt K ∗ P) ⊢ iprop((R -∗ wp frame (wpE (defs₀ (F := F)) 𝒱₀ (c : Thread nD τ) none) Set.univ q Q)
      -∗ wp frame (wpE (defs₀ (F := F)) 𝒱₀ (c : Thread nD τ) none) Set.univ (p >>= fun _ => q) Q) := by
  unfold Tri at h
  have hm : iprop((R -∗ wp frame (wpE (defs₀ (F := F)) 𝒱₀ (c : Thread nD τ) none) Set.univ q Q) ∗ R)
      ⊢ wp frame (wpE (defs₀ (F := F)) 𝒱₀ (c : Thread nD τ) none) Set.univ q Q := by
    iintro ⟨Hk, HR⟩
    iapply Hk; iexact HR
  rw [wp_bind]
  iintro H Hk
  iapply (wp_mono _ _ _ (Q := fun _ => iprop((R -∗ wp frame (wpE (defs₀ (F := F)) 𝒱₀ (c : Thread nD τ) none) Set.univ q Q) ∗ R)) fun _ => hm)
  iapply (wp_frame_l _ _ _)
  isplitl [Hk]; · iexact Hk
  iapply h; iexact H

theorem take_all (j : Fin 4) (g : Fin 4 → Guard) (hg : ∀ r, (g r).Is c (slotOf c j r)) :
    Tri X Wt K c iprop((owe c (owA c 0) ∗ (∃ f, whole c sM f)) ∗ bigSep Finset.univ fun r : Fin 4 => early X c (slotOf c j r)) (loop 4 fun r => take c (g r) j r)
      iprop((owe c (owA c 0) ∗ whole c sM (SG X c j)) ∗ bigSep Finset.univ fun r : Fin 4 => iprop(rPts c (slotOf c j r) (XR X c) ∗ semVal (dCell c 1 (slotOf c j r)) 0)) :=
  (Tri.iter (n := 4) (fun r => iprop(owe c (owA c 0) ∗ upto X c j r)) _ _ fun r => take_tri j r (hg r)).weaken
    (by
      iintro ⟨⟨HO, ⟨%f, Hs⟩⟩, He⟩
      isplitr [He]
      · isplitl [HO]; · iexact HO
        iapply (upto_none c j f); iexact Hs
      iexact He)
    (by
      iintro ⟨⟨HO, Hs⟩, He⟩
      isplitr [He]
      · isplitl [HO]; · iexact HO
        iapply (upto_all c j); iexact Hs
      iexact He)

end Cert.KernelIdeal.Body

end
-- ==== Proof.Ideal.Device.lean ====
/-
The whole body of one device, step after step.
-/
module

public import proofs.«01_k».proof.Proof.Ideal.Body

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-- Two families side by side. -/
theorem zip {I : Type} (S : Finset I) (Φ Ψ : I → sProp 𝕄) : iprop(bigSep S Φ ∗ bigSep S Ψ) ⊢ bigSep S fun i => iprop(Φ i ∗ Ψ i) := by
  rw [bigSep_sep']
theorem unzip {I : Type} (S : Finset I) (Φ Ψ : I → sProp 𝕄) : (bigSep S fun i => iprop(Φ i ∗ Ψ i)) ⊢ iprop(bigSep S Φ ∗ bigSep S Ψ) := by
  rw [bigSep_sep']

variable {X : Dev nD → Vec F S4096x256 .f32} {Wt : Dev nD → Vec F S4096x2048 .f32} {K : Names} {c : Dev nD}

/-! ## The loops -/

theorem signals_tri :
    Tri X Wt K c iprop(owe c (O₀ c) ∗ bigSep Finset.univ fun k : Fin 15 => iprop(dutyTok ER (barCell (up c k)) 0 c ∗ barPay (F := F) (up c k) c)) (loop 15 (signal c))
      (owe c (owA c 0 + owX c 0)) := by
  have h := Tri.iter (X := X) (Wt := Wt) (K := K) (c := c) (n := 15) (fun k => owe c (owA c 0 + owX c 0 + owBar c k)) _ _ fun k => signal_tri (owA c 0 + owX c 0) k
  rw [owBar_end, add_zero] at h
  exact h.weaken (by iintro H; iexact H) (by iintro ⟨H, -⟩; iexact H)

theorem sendsX_tri :
    Tri X Wt K c iprop(owe c (owA c 0 + owX c 0) ∗ bigSep Finset.univ fun k : Fin 15 => iprop(bPts c (down c k) (XB X c) ∗ (∃ f, rPts (down c k) c f)
        ∗ dutyTok ER (dCell c 0 (nth k)) 0 0 ∗ dutyTok ER (dCell (down c k) 1 c) 0 0)) (loop 15 (sendX c))
      iprop(owe c (owA c 0) ∗ bigSep Finset.univ fun k : Fin 15 => cred (tallyAt (dCell c 0 (nth k)) () NX)) := by
  have h := Tri.iter (X := X) (Wt := Wt) (K := K) (c := c) (n := 15) (fun k => owe c (owA c 0 + owX c k)) _ _ fun k => sendX_tri k
  rw [owX_end, add_zero] at h
  exact h

theorem sendsA_tri :
    Tri X Wt K c iprop((owe c (owA c 0) ∗ aPts fullShare.right c c (AM X Wt)) ∗ bigSep Finset.univ fun k : Fin 15 => iprop((∃ f, aPts fullShare (up c k) c f)
        ∗ dutyTok ER (dCell c 2 (nth k)) 0 0 ∗ dutyTok ER (dCell (up c k) 3 c) 0 0)) (loop 15 (sendA c))
      iprop((owe c 0 ∗ aPts (rest 15) c c (AM X Wt)) ∗ bigSep Finset.univ fun k : Fin 15 => cred (tallyAt (dCell c 2 (nth k)) () NA)) := by
  have h := Tri.iter (X := X) (Wt := Wt) (K := K) (c := c) (n := 15) (fun k => iprop(owe c (owA c k) ∗ aPts (rest k) c c (AM X Wt))) _ _ fun k => sendA_tri k
  rw [owA_end] at h
  exact h

theorem recvsA_tri :
    Tri X Wt K c iprop(owe c 0 ∗ bigSep Finset.univ fun k : Fin 15 => iprop(cred (tallyAt (dCell c 3 (up c k)) () NA) ∗ atPos ER (dCell c 3 (up c k)) 0 ∅ 0)) (loop 15 (recvA c))
      iprop(owe c 0 ∗ bigSep Finset.univ fun k : Fin 15 => iprop(aPts fullShare c (up c k) (AM X Wt) ∗ semVal (dCell c 3 (up c k)) 0)) :=
  Tri.iter (n := 15) (fun _ => owe c 0) _ _ fun k => recvA_tri k

theorem drainsX_tri :
    Tri X Wt K c iprop(owe c 0 ∗ bigSep Finset.univ fun k : Fin 15 => iprop(cred (tallyAt (dCell c 0 (nth k)) () NX) ∗ atPos ER (dCell c 0 (nth k)) 0 ∅ 0)) (loop 15 (drainX c))
      iprop(owe c 0 ∗ bigSep Finset.univ fun k : Fin 15 => iprop(bPts c (down c k) (XB X c) ∗ semVal (dCell c 0 (nth k)) 0)) :=
  Tri.iter (n := 15) (fun _ => owe c 0) _ _ fun k => drainX_tri k

theorem drainsA_tri :
    Tri X Wt K c iprop(owe c 0 ∗ bigSep Finset.univ fun k : Fin 15 => iprop(cred (tallyAt (dCell c 2 (nth k)) () NA) ∗ atPos ER (dCell c 2 (nth k)) 0 ∅ 0)) (loop 15 (drainA c))
      iprop(owe c 0 ∗ bigSep Finset.univ fun k : Fin 15 => iprop(aPts (lend k.val) c c (AM X Wt) ∗ semVal (dCell c 2 (nth k)) 0)) :=
  Tri.iter (n := 15) (fun _ => owe c 0) _ _ fun k => drainA_tri k

/-! ## Rearrangements between the loops -/

/-- The slots given up at entry: the own ones kept, the others paired with the tokens. -/
theorem give (fr : Vec F S16x256x256 .bf16) (fa : Vec F S16x8x128 .f32) :
    iprop((bigSep Finset.univ fun k : Fin 15 => dutyTok ER (barCell (up c k)) 0 c) ∗ whole c rM fr ∗ whole c aM fa)
      ⊢ (iprop((bigSep Finset.univ fun k : Fin 15 => iprop(dutyTok ER (barCell (up c k)) 0 c ∗ barPay (F := F) (up c k) c))
        ∗ (∃ f, rPts c c f) ∗ ∃ f, aPts fullShare c c f) : sProp 𝕄) := by
  have hr : ∀ k : Fin 15, (rPts c (up c k) fr : sProp 𝕄) ⊢ iprop(∃ f, rPts c (up c k) f) := fun k => by iintro H; iexists fr; iexact H
  have ha : ∀ k : Fin 15, (aPts fullShare c (up c k) fa : sProp 𝕄) ⊢ iprop(∃ f, aPts fullShare c (up c k) f) := fun k => by iintro H; iexists fa; iexact H
  rw [whole_r, show (whole c aM fa : sProp 𝕄) = _ from whole_a fullShare c fa, split_up c fun s => rPts c s fr, split_up c fun s => aPts fullShare c s fa]
  unfold barPay
  iintro ⟨Ht, ⟨Hr, Hrs⟩, ⟨Ha, Has⟩⟩
  isplitr [Hr Ha]
  · iapply (zip Finset.univ _ _)
    isplitl [Ht]; · iexact Ht
    iapply (zip Finset.univ _ _)
    isplitl [Hrs]
    · iapply (show (bigSep Finset.univ fun k : Fin 15 => (rPts c (up c k) fr : sProp 𝕄)) ⊢ bigSep Finset.univ fun k : Fin 15 => iprop(∃ f, rPts c (up c k) f) from bigSep_mono fun k _ => hr k)
      iexact Hrs
    · iapply (show (bigSep Finset.univ fun k : Fin 15 => (aPts fullShare c (up c k) fa : sProp 𝕄)) ⊢ bigSep Finset.univ fun k : Fin 15 => iprop(∃ f, aPts fullShare c (up c k) f) from bigSep_mono fun k _ => ha k)
      iexact Has
  isplitl [Hr]
  · iexists fr; iexact Hr
  iexists fa; iexact Ha

/-- The slots that the fifteen other devices have given up. -/
theorem got : (bigSep (Finset.univ.erase c) fun p => barPay (F := F) c p)
    ⊢ (iprop((bigSep Finset.univ fun k : Fin 15 => iprop(∃ f, rPts (down c k) c f)) ∗ bigSep Finset.univ fun k : Fin 15 => iprop(∃ f, aPts fullShare (up c k) c f)) : sProp 𝕄) := by
  unfold barPay
  rw [bigSep_sep', others_down c fun p => iprop(∃ f, rPts (F := F) p c f), others_up c fun p => iprop(∃ f, aPts (F := F) fullShare p c f)]

/-- What the unpacking of all sixteen slots starts from. -/
theorem early_all : iprop(rPts c c (XR X c) ∗ (bigSep Finset.univ fun k : Fin 15 => cred (tallyAt (dCell c 1 (up c k)) () NX))
      ∗ bigSep Finset.univ fun s : Fin 16 => atPos ER (dCell c 1 s) 0 ∅ 0)
    ⊢ (iprop((bigSep Finset.univ fun r : Fin 4 => early X c (slotOf c 0 r)) ∗ (bigSep Finset.univ fun r : Fin 4 => early X c (slotOf c 1 r)) ∗ (bigSep Finset.univ fun r : Fin 4 => early X c (slotOf c 2 r)) ∗ bigSep Finset.univ fun r : Fin 4 => early X c (slotOf c 3 r)) : sProp 𝕄) := by
  have h := (split_slots c fun s => early X c s).trans (bigSep_four _)
  refine BIBase.Entails.trans ?_ (Entails.of_eq h)
  unfold early
  rw [bigSep_sep', split_up c fun s => if s = c then rPts c s (XR X c) else cred (tallyAt (dCell c 1 s) () NX), if_pos rfl,
    show (bigSep Finset.univ fun k : Fin 15 => (if up c k = c then rPts c (up c k) (XR X c) else cred (tallyAt (dCell c 1 (up c k)) () NX) : sProp 𝕄))
      = bigSep Finset.univ fun k : Fin 15 => cred (tallyAt (dCell c 1 (up c k)) () NX) from bigSep_congr fun k _ => if_neg (up_ne c k)]
  iintro ⟨Hr, Hc, Ha⟩
  isplitl [Hr Hc]
  · isplitl [Hr]; · iexact Hr
    iexact Hc
  iexact Ha

/-- What it ends in. -/
theorem late_all : iprop((bigSep Finset.univ fun r : Fin 4 => iprop(rPts c (slotOf c 0 r) (XR X c) ∗ semVal (dCell c 1 (slotOf c 0 r)) 0)) ∗ (bigSep Finset.univ fun r : Fin 4 => iprop(rPts c (slotOf c 1 r) (XR X c) ∗ semVal (dCell c 1 (slotOf c 1 r)) 0)) ∗ (bigSep Finset.univ fun r : Fin 4 => iprop(rPts c (slotOf c 2 r) (XR X c) ∗ semVal (dCell c 1 (slotOf c 2 r)) 0)) ∗ (bigSep Finset.univ fun r : Fin 4 => iprop(rPts c (slotOf c 3 r) (XR X c) ∗ semVal (dCell c 1 (slotOf c 3 r)) 0)))
    ⊢ (iprop(whole c rM (XR X c) ∗ bigSep Finset.univ fun s : Fin 16 => semVal (dCell c 1 s) 0) : sProp 𝕄) := by
  have h := (split_slots c fun s => iprop(rPts c s (XR X c) ∗ semVal (dCell c 1 s) 0)).trans (bigSep_four _)
  refine BIBase.Entails.trans (Entails.of_eq h.symm) ?_
  rw [bigSep_sep', whole_r]

/-- All sixteen maxima at half a share, the other halves beside. -/
theorem lefts : iprop(aPts fullShare.left c c (AM X Wt) ∗ bigSep Finset.univ fun k : Fin 15 => aPts fullShare c (up c k) (AM X Wt))
    ⊢ (iprop((aM.view.loc (c : Thread nD τ) ↦{fullShare.left} AM X Wt) ∗ bigSep Finset.univ fun k : Fin 15 => aPts fullShare.right c (up c k) (AM X Wt)) : sProp 𝕄) := by
  rw [whole_a, split_up c fun s => aPts fullShare.left c s (AM X Wt),
    show (bigSep Finset.univ fun k : Fin 15 => (aPts fullShare c (up c k) (AM X Wt) : sProp 𝕄))
      = bigSep Finset.univ fun k : Fin 15 => iprop(aPts fullShare.left c (up c k) (AM X Wt) ∗ aPts fullShare.right c (up c k) (AM X Wt)) from bigSep_congr fun k _ => halves c (up c k) _,
    bigSep_sep']
  iintro ⟨Hl, Hls, Hrs⟩
  isplitl [Hl Hls]
  · isplitl [Hl]; · iexact Hl
    iexact Hls
  iexact Hrs

/-- The halves joined again. -/
theorem rejoin : iprop((aM.view.loc (c : Thread nD τ) ↦{fullShare.left} AM X Wt) ∗ aPts fullShare.right c c (AM X Wt)
      ∗ bigSep Finset.univ fun k : Fin 15 => aPts fullShare.right c (up c k) (AM X Wt))
    ⊢ (whole c aM (AM X Wt) : sProp 𝕄) := by
  have h : (whole c aM (AM X Wt) : sProp 𝕄) = iprop((aM.view.loc (c : Thread nD τ) ↦{fullShare.left} AM X Wt) ∗ aM.view.loc (c : Thread nD τ) ↦{fullShare.right} AM X Wt) :=
    sep_eq (pointsTo_share (PosShare.mem_left_op_right fullShare)).1 (pointsTo_share (PosShare.mem_left_op_right fullShare)).2
  rw [h, whole_a fullShare.right, split_up c fun s => aPts fullShare.right c s (AM X Wt)]

/-! ## The whole body -/

/-- What device `c` starts with. -/
def entry (X : Dev nD → Vec F S4096x256 .f32) (Wt : Dev nD → Vec F S4096x2048 .f32) (c : Dev nD) : sProp 𝕄 :=
  iprop((toks c ∗ ats c ∗ creds c) ∗ owe c (O₀ c) ∗ (whole c xM (X c) ∗ whole c wM (Wt c) ∗ ∃ y, whole c oM y) ∗ scratch c)
/-- What it ends with. -/
def exit (X : Dev nD → Vec F S4096x256 .f32) (Wt : Dev nD → Vec F S4096x2048 .f32) (c : Dev nD) : sProp 𝕄 :=
  iprop(zeros c ∗ owe c 0 ∗ (whole c xM (X c) ∗ whole c wM (Wt c) ∗ whole c oM (OutV X Wt c)) ∗ scratch c)

/-- The last triple of a program, after which cells may be closed. -/
theorem run_last {P R Z : sProp 𝕄} {p : Pr (F := F)} (h : Tri X Wt K c P p R) :
    iprop(ctx X Wt K ∗ P) ⊢ iprop((R -∗ |={Set.univ}=> Z) -∗ wp frame (wpE (defs₀ (F := F)) 𝒱₀ (c : Thread nD τ) none) Set.univ p fun _ => Z) := by
  unfold Tri at h
  have hm : iprop((R -∗ |={Set.univ}=> Z) ∗ R) ⊢ (|={Set.univ}=> Z : sProp 𝕄) := by
    iintro ⟨Hk, HR⟩
    iapply Hk; iexact HR
  iintro H Hk
  iapply (wp_fupd _ _ _)
  iapply (wp_mono _ _ _ fun _ => hm)
  iapply (wp_frame_l _ _ _)
  isplitl [Hk]; · iexact Hk
  iapply h; iexact H

/-- The cells of family `a` at zero, the one without a payment closed. -/
theorem zeros_nth (a : Fin 4) (hu : ¬ used c a 0) :
    iprop(ctx X Wt K ∗ atPos ER (dCell c a 0) 0 ∅ 0 ∗ bigSep Finset.univ fun k : Fin 15 => semVal (dCell c a (nth k)) 0)
      ⊢ (|={Set.univ}=> bigSep Finset.univ fun s : Fin 16 => semVal (dCell c a s) 0 : sProp 𝕄) := by
  rw [split_nth fun s => semVal (dCell c a s) 0]
  iintro ⟨#Hc, Hat, Hz⟩
  imod (close_unused (X := X) (Wt := Wt) (K := K) hu) $$ [Hat] with H0
  · isplitr; · iexact Hc
    iexact Hat
  imodintro
  isplitl [H0]; · iexact H0
  iexact Hz
theorem zeros_up (a : Fin 4) (hu : ¬ used c a c) :
    iprop(ctx X Wt K ∗ atPos ER (dCell c a c) 0 ∅ 0 ∗ bigSep Finset.univ fun k : Fin 15 => semVal (dCell c a (up c k)) 0)
      ⊢ (|={Set.univ}=> bigSep Finset.univ fun s : Fin 16 => semVal (dCell c a s) 0 : sProp 𝕄) := by
  rw [split_up c fun s => semVal (dCell c a s) 0]
  iintro ⟨#Hc, Hat, Hz⟩
  imod (close_unused (X := X) (Wt := Wt) (K := K) hu) $$ [Hat] with H0
  · isplitr; · iexact Hc
    iexact Hat
  imodintro
  isplitl [H0]; · iexact H0
  iexact Hz

theorem unused0 : ¬ used c 0 0 := by unfold used; simp
theorem unused2 : ¬ used c 2 0 := by unfold used; simp
theorem unused3 : ¬ used c 3 c := by unfold used; simp

attribute [local irreducible] guards0 guards1 guards2 guards3 loop take used

set_option maxHeartbeats 1000000 in
theorem flat_tri : Tri X Wt K c (entry X Wt c) (flat c) (exit X Wt c) := by
  unfold Tri entry toks ats creds scratch flat
  rw [bigSep_four]
  iintro ⟨#Hc, ⟨⟨Htb, Htx, Htr, Hta, Htm⟩, ⟨Hab, Hax, Har, Haa, Ham⟩, Hcb, Hcr, Hcm⟩, HO, ⟨Hx, Hw, ⟨%y, Ho⟩⟩, ⟨%fb, Hb⟩, ⟨%fr, Hr⟩, ⟨%fs, Hs⟩, ⟨%fa, Ha⟩⟩
  -- rounding
  iapply (run_tri (narrow_tri fb)) $$ [Hx Hb]
  · isplitr; · iexact Hc
    isplitl [Hx]; · iexact Hx
    iexact Hb
  iintro ⟨Hx, Hb⟩
  -- the entry barrier
  ihave Hg := (give fr fa) $$ [Htb Hr Ha]
  · isplitl [Htb]; · iexact Htb
    isplitl [Hr]; · iexact Hr
    iexact Ha
  icases Hg with ⟨Hp, Hr, Ha⟩
  iapply (run_tri signals_tri) $$ [HO Hp]
  · isplitr; · iexact Hc
    isplitl [HO]; · iexact HO
    iexact Hp
  iintro HO
  iapply (run_tri gather_tri) $$ [HO Hcb Hab]
  · isplitr; · iexact Hc
    isplitl [HO]; · iexact HO
    isplitl [Hcb]; · iexact Hcb
    iexact Hab
  iintro ⟨HO, Hzb, Hp⟩
  ihave Hp := got $$ Hp
  icases Hp with ⟨Hpr, Hpa⟩
  -- the row blocks leave
  ihave Hb := (Entails.of_eq ((whole_b c (XB X c)).trans (split_down c fun s => bPts c s (XB X c)))) $$ Hb
  icases Hb with ⟨Hb, Hbs⟩
  iapply (run_tri sendsX_tri) $$ [HO Hbs Hpr Htx Htr]
  · isplitr; · iexact Hc
    isplitl [HO]; · iexact HO
    iapply (zip Finset.univ _ _)
    isplitl [Hbs]; · iexact Hbs
    iapply (zip Finset.univ _ _)
    isplitl [Hpr]; · iexact Hpr
    iapply (zip Finset.univ _ _)
    isplitl [Htx]; · iexact Htx
    iexact Htr
  iintro ⟨HO, Hcx⟩
  iapply (run_tri keepOwn_tri) $$ [Hb Hr]
  · isplitr; · iexact Hc
    isplitl [Hb]; · iexact Hb
    iexact Hr
  iintro ⟨Hb, Hr⟩
  -- the four groups
  ihave He := (early_all (X := X) (c := c)) $$ [Hr Hcr Har]
  · isplitl [Hr]; · iexact Hr
    isplitl [Hcr]; · iexact Hcr
    iexact Har
  icases He with ⟨He0, He1, He2, He3⟩
  iapply (run_tri (take_all 0 (guards0 c) (guards0_is c))) $$ [HO Hs He0]
  · isplitr; · iexact Hc
    isplitr [He0]
    · isplitl [HO]; · iexact HO
      iexists fs; iexact Hs
    iexact He0
  iintro ⟨⟨HO, Hs⟩, Hl0⟩
  iapply (run_tri (mulFirst_tri y)) $$ [Hs Hw Ho]
  · isplitr; · iexact Hc
    isplitl [Hs]; · iexact Hs
    isplitl [Hw]; · iexact Hw
    iexact Ho
  iintro ⟨Hs, Hw, Ho⟩
  iapply (run_tri (take_all 1 (guards1 c) (guards1_is c))) $$ [HO Hs He1]
  · isplitr; · iexact Hc
    isplitr [He1]
    · isplitl [HO]; · iexact HO
      iexists _; iexact Hs
    iexact He1
  iintro ⟨⟨HO, Hs⟩, Hl1⟩
  iapply (run_tri (mulAdd2_tri 1 (Y1 X Wt c))) $$ [Hs Hw Ho]
  · isplitr; · iexact Hc
    isplitl [Hs]; · iexact Hs
    isplitl [Hw]; · iexact Hw
    iexact Ho
  iintro ⟨Hs, Hw, Ho⟩
  iapply (run_tri (take_all 2 (guards2 c) (guards2_is c))) $$ [HO Hs He2]
  · isplitr; · iexact Hc
    isplitr [He2]
    · isplitl [HO]; · iexact HO
      iexists _; iexact Hs
    iexact He2
  iintro ⟨⟨HO, Hs⟩, Hl2⟩
  iapply (run_tri (mulAdd2_tri 2 (Y2 X Wt c))) $$ [Hs Hw Ho]
  · isplitr; · iexact Hc
    isplitl [Hs]; · iexact Hs
    isplitl [Hw]; · iexact Hw
    iexact Ho
  iintro ⟨Hs, Hw, Ho⟩
  iapply (run_tri (take_all 3 (guards3 c) (guards3_is c))) $$ [HO Hs He3]
  · isplitr; · iexact Hc
    isplitr [He3]
    · isplitl [HO]; · iexact HO
      iexists _; iexact Hs
    iexact He3
  iintro ⟨⟨HO, Hs⟩, Hl3⟩
  iapply (run_tri (mulAdd2_tri 3 (Y3 X Wt c))) $$ [Hs Hw Ho]
  · isplitr; · iexact Hc
    isplitl [Hs]; · iexact Hs
    isplitl [Hw]; · iexact Hw
    iexact Ho
  iintro ⟨Hs, Hw, Ho⟩
  ihave Hl := late_all $$ [Hl0 Hl1 Hl2 Hl3]
  · isplitl [Hl0]; · iexact Hl0
    isplitl [Hl1]; · iexact Hl1
    isplitl [Hl2]; · iexact Hl2
    iexact Hl3
  icases Hl with ⟨Hr, Hzr⟩
  -- the maxima
  iapply (run_tri localMax_tri) $$ [Ho Ha]
  · isplitr; · iexact Hc
    isplitl [Ho]; · iexact Ho
    iexact Ha
  iintro ⟨Ho, Ha⟩
  ihave Ha := (Entails.of_eq (halves c c (AM X Wt))) $$ Ha
  icases Ha with ⟨Hal, Ha⟩
  iapply (run_tri sendsA_tri) $$ [HO Ha Hpa Hta Htm]
  · isplitr; · iexact Hc
    isplitl [HO Ha]
    · isplitl [HO]; · iexact HO
      iexact Ha
    iapply (zip Finset.univ _ _)
    isplitl [Hpa]; · iexact Hpa
    iapply (zip Finset.univ _ _)
    isplitl [Hta]; · iexact Hta
    iexact Htm
  iintro ⟨⟨HO, Ha⟩, Hca⟩
  ihave Ham := (Entails.of_eq (split_up c fun s => atPos ER (dCell c 3 s) 0 ∅ 0)) $$ Ham
  icases Ham with ⟨Ham0, Ham⟩
  iapply (run_tri recvsA_tri) $$ [HO Hcm Ham]
  · isplitr; · iexact Hc
    isplitl [HO]; · iexact HO
    iapply (zip Finset.univ _ _)
    isplitl [Hcm]; · iexact Hcm
    iexact Ham
  iintro ⟨HO, Hm⟩
  ihave Hm := (unzip Finset.univ _ _) $$ Hm
  icases Hm with ⟨Hm, Hzm⟩
  ihave Hm := lefts $$ [Hal Hm]
  · isplitl [Hal]; · iexact Hal
    iexact Hm
  icases Hm with ⟨Hal, Hars⟩
  iapply (run_tri (quantise_tri fullShare.left)) $$ [Ho Hal]
  · isplitr; · iexact Hc
    isplitl [Ho]; · iexact Ho
    iexact Hal
  iintro ⟨Ho, Hal⟩
  -- the copies have left
  ihave Hax := (Entails.of_eq (split_nth fun s => atPos ER (dCell c 0 s) 0 ∅ 0)) $$ Hax
  icases Hax with ⟨Hax0, Hax⟩
  iapply (run_tri drainsX_tri) $$ [HO Hcx Hax]
  · isplitr; · iexact Hc
    isplitl [HO]; · iexact HO
    iapply (zip Finset.univ _ _)
    isplitl [Hcx]; · iexact Hcx
    iexact Hax
  iintro ⟨HO, Hbs⟩
  ihave Hbs := (unzip Finset.univ _ _) $$ Hbs
  icases Hbs with ⟨Hbs, Hzx⟩
  ihave Haa := (Entails.of_eq (split_nth fun s => atPos ER (dCell c 2 s) 0 ∅ 0)) $$ Haa
  icases Haa with ⟨Haa0, Haa⟩
  iapply (run_last drainsA_tri) $$ [HO Hca Haa]
  · isplitr; · iexact Hc
    isplitl [HO]; · iexact HO
    iapply (zip Finset.univ _ _)
    isplitl [Hca]; · iexact Hca
    iexact Haa
  iintro ⟨HO, Hls⟩
  ihave Hls := (unzip Finset.univ _ _) $$ Hls
  icases Hls with ⟨Hls, Hza⟩
  ihave Ha := (lent_back c c (AM X Wt) 15) $$ [Ha Hls]
  · isplitl [Ha]; · iexact Ha
    iexact Hls
  ihave Ha := rejoin $$ [Hal Ha Hars]
  · isplitl [Hal]; · iexact Hal
    isplitl [Ha]; · iexact Ha
    iexact Hars
  ihave Hb := (Entails.of_eq ((whole_b c (XB X c)).trans (split_down c fun s => bPts c s (XB X c))).symm) $$ [Hb Hbs]
  · isplitl [Hb]; · iexact Hb
    iexact Hbs
  imod (zeros_nth (X := X) (Wt := Wt) (K := K) 0 unused0) $$ [Hax0 Hzx] with Hz0
  · isplitr; · iexact Hc
    isplitl [Hax0]; · iexact Hax0
    iexact Hzx
  imod (zeros_nth (X := X) (Wt := Wt) (K := K) 2 unused2) $$ [Haa0 Hza] with Hz2
  · isplitr; · iexact Hc
    isplitl [Haa0]; · iexact Haa0
    iexact Hza
  imod (zeros_up (X := X) (Wt := Wt) (K := K) 3 unused3) $$ [Ham0 Hzm] with Hz3
  · isplitr; · iexact Hc
    isplitl [Ham0]; · iexact Ham0
    iexact Hzm
  imodintro
  unfold exit zeros scratch
  rw [bigSep_four]
  isplitl [Hzb Hz0 Hzr Hz2 Hz3]
  · isplitl [Hzb]; · iexact Hzb
    isplitl [Hz0]; · iexact Hz0
    isplitl [Hzr]; · iexact Hzr
    isplitl [Hz2]; · iexact Hz2
    iexact Hz3
  isplitl [HO]; · iexact HO
  isplitl [Hx Hw Ho]
  · isplitl [Hx]; · iexact Hx
    isplitl [Hw]; · iexact Hw
    iexact Ho
  isplitl [Hb]; · iexists _; iexact Hb
  isplitl [Hr]; · iexists _; iexact Hr
  isplitl [Hs]; · iexists _; iexact Hs
  iexists _; iexact Ha

end Cert.KernelIdeal.Body

end
-- ==== Proof.Ideal.Mint.lean ====
/- Before the kernel: the ghost state of the protocol is made and dealt to the devices. -/
module

public import proofs.«01_k».proof.Proof.Ideal.Body

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## What is made -/

/-- The kernel's own semaphores. -/
abbrev osem : Fin 4 × Fin 16 → SemLoc sig := fun p => .dma (dsem p.1 p.2)

theorem csem_inj : Function.Injective csem := by
  rintro (_ | ⟨a, s⟩) (_ | ⟨a', s'⟩) h
  · rfl
  · exact absurd h.symm (dma_ne_bar _)
  · exact absurd h (dma_ne_bar _)
  · obtain ⟨rfl, rfl⟩ := dsem_inj h; rfl
theorem kcell_inj : Function.Injective kcell := by
  rintro ⟨c, k⟩ ⟨c', k'⟩ h
  have h1 : c = c' := congrArg (fun g : GSem nD τ sig => g.1.1) h
  subst h1
  have h2 : csem k = csem k' := congrArg Prod.snd h
  rw [csem_inj h2]
/-- All cells. -/
def cells : Finset (GSem nD τ sig) := Finset.univ.map ⟨kcell, kcell_inj⟩

/-- The tokens by the device that pays with them. -/
def tokOf (x : Dev nD × Fin 5 × Fin 15) : GSem nD τ sig × ℕ × Fin 16 :=
  match x.2.1 with
  | 0 => (barCell (up x.1 x.2.2), 0, x.1)
  | 1 => (dCell x.1 0 (nth x.2.2), 0, 0)
  | 2 => (dCell (down x.1 x.2.2) 1 x.1, 0, 0)
  | 3 => (dCell x.1 2 (nth x.2.2), 0, 0)
  | 4 => (dCell (up x.1 x.2.2) 3 x.1, 0, 0)

/-- What tells tokens apart. -/
def code (y : GSem nD τ sig × ℕ × Fin 16) : Dev nD × Option (Fin 4 × Fin 16) × Fin 16 := (y.1.1.1, which y.1.2, y.2.2)
theorem code_tok (c : Dev nD) (j : Fin 5) (k : Fin 15) : code (tokOf (c, j, k)) =
    (![(up c k, none, c), (c, some (0, nth k), 0), (down c k, some (1, c), 0), (c, some (2, nth k), 0), (up c k, some (3, c), 0)]
      : Fin 5 → Dev nD × Option (Fin 4 × Fin 16) × Fin 16) j := by
  unfold code
  fin_cases j
  · rfl
  · exact congrArg (fun z => ((c, z, 0) : Dev nD × Option (Fin 4 × Fin 16) × Fin 16)) (which_dsem 0 (nth k))
  · exact congrArg (fun z => ((down c k, z, 0) : Dev nD × Option (Fin 4 × Fin 16) × Fin 16)) (which_dsem 1 c)
  · exact congrArg (fun z => ((c, z, 0) : Dev nD × Option (Fin 4 × Fin 16) × Fin 16)) (which_dsem 2 (nth k))
  · exact congrArg (fun z => ((up c k, z, 0) : Dev nD × Option (Fin 4 × Fin 16) × Fin 16)) (which_dsem 3 c)

theorem tokOf_inj : Function.Injective tokOf := by
  rintro ⟨c, j, k⟩ ⟨c', j', k'⟩ h
  have h := congrArg code h
  rw [code_tok, code_tok] at h
  have key : j = j' ∧ c = c' ∧ k = k' := by
    fin_cases j <;> fin_cases j' <;>
      first
      | (refine ⟨rfl, ?_⟩
         obtain ⟨h1, h2⟩ := Prod.mk.inj h
         obtain ⟨h2, h3⟩ := Prod.mk.inj h2
         first
         | (have h3 : c = c' := h3
            subst h3; exact ⟨rfl, up_inj _ h1⟩)
         | (have h1 : c = c' := h1
            subst h1; exact ⟨rfl, nth_inj (Prod.mk.inj (Option.some.inj h2)).2⟩)
         | (have h4 : c = c' := (Prod.mk.inj (Option.some.inj h2)).2
            subst h4; first | exact ⟨rfl, up_inj _ h1⟩ | exact ⟨rfl, down_inj _ h1⟩))
      | (exfalso
         have h2 := (Prod.mk.inj (Prod.mk.inj h).2).1
         exact absurd h2 (by simp))
  obtain ⟨rfl, rfl, rfl⟩ := key
  rfl
/-- All tokens. -/
def tokens : Finset (GSem nD τ sig × ℕ × Fin 16) := Finset.univ.map ⟨tokOf, tokOf_inj⟩

/-- The ghost state made at launch. -/
def u₀ : UU := (initOf (Pipeline.cells cfgs cellOf_inj) (Pipeline.launchToks cfgs cellOf_inj), initOf cells tokens)

/-! ## A family over a device's cells -/

theorem bigSep_opt (Φ : Option (Fin 4 × Fin 16) → sProp 𝕄) :
    bigSep Finset.univ Φ = iprop(Φ none ∗ bigSep Finset.univ fun a : Fin 4 => bigSep Finset.univ fun s : Fin 16 => Φ (some (a, s))) := by
  rw [BI.bigSep_erase (Finset.mem_univ none),
    show (Finset.univ : Finset (Option (Fin 4 × Fin 16))).erase none = Finset.univ.map ⟨some, Option.some_injective _⟩ from by decide,
    BI.bigSep_map, ← BI.bigSep_univ_prod (fun p : Fin 4 × Fin 16 => Φ (some p))]
  rfl
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

variable (X : Dev nD → Vec F S4096x256 .f32) (Wt : Dev nD → Vec F S4096x2048 .f32)

/-- What a device gets first. -/
def G (c : Dev nD) : sProp 𝕄 :=
  iprop((bigSep Finset.univ fun k => roundState ER (sched X Wt) (kcell (c, k)) 0)
    ∗ ((bigSep Finset.univ fun k => atPos ER (kcell (c, k)) 0 ∅ 0) ∗ bigSep Finset.univ fun k => reached ER (kcell (c, k)) 0) ∗ toks c)

theorem tokens_eq : bigSep tokens (fun x => (dutyTok ER x.1 x.2.1 x.2.2 : sProp 𝕄)) = bigSep Finset.univ fun c : Dev nD => toks (F := F) c := by
  unfold tokens
  rw [BI.bigSep_map, BI.bigSep_univ_prod]
  refine bigSep_congr fun c _ => ?_
  rw [BI.bigSep_univ_prod, bigSep_five]
  rfl

theorem made : BI.own (ER (initOf cells tokens)) ⊢ (|==> bigSep Finset.univ (G X Wt) : sProp 𝕄) := by
  have hX (Φ : GSem nD τ sig → sProp 𝕄) : bigSep cells Φ = bigSep Finset.univ fun c : Dev nD => bigSep Finset.univ fun k => Φ (kcell (c, k)) := by
    unfold cells; rw [BI.bigSep_map, BI.bigSep_univ_prod]; rfl
  iintro HX
  imod (Rounds.fund ER (sched X Wt) cells tokens) $$ HX with ⟨Hst, Hr, Hat, Htok⟩
  imodintro
  ihave Hst := (Entails.of_eq (hX fun g => roundState ER (sched X Wt) g 0)) $$ Hst
  ihave Hat := (Entails.of_eq (hX fun g => atPos ER g 0 ∅ 0)) $$ Hat
  ihave Hr := (Entails.of_eq (hX fun g => reached ER g 0)) $$ Hr
  ihave Htok := (Entails.of_eq tokens_eq) $$ Htok
  unfold G; simp only [bigSep_sep']
  isplitl [Hst]; · iexact Hst
  isplitl [Hat Hr]
  · isplitl [Hat]; · iexact Hat
    iexact Hr
  iexact Htok

/-! ## The cells' invariants -/

theorem own_eq (c : Dev nD) : (Pipeline.ownSems0 (Ix := Unit) (Name := ℕ) (U := UU) (Lvl := ℕ) (Val := Elt F) (τ := τ) osem c : sProp 𝕄)
    = bigSep Finset.univ fun a : Fin 4 => bigSep Finset.univ fun s : Fin 16 => semVal (dCell c a s) 0 := by
  unfold Pipeline.ownSems0
  rw [BI.bigSep_univ_prod]
theorem unscoped_eq (c : Dev nD) : (unscopedSems0 c : sProp 𝕄) = semVal (barCell c) 0 := by
  unfold unscopedSems0; rw [bigSep_eq_bigSepL_of_eq [SemLoc.reg barS] (by decide) (by decide)]; rfl

/-- All cells of a device at zero are what the launch hands over. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [own_eq, unscoped_eq]; rfl
theorem zeros_opt (c : Dev nD) : (zeros c : sProp 𝕄) = bigSep Finset.univ fun k => semVal (kcell (c, k)) 0 := by
  rw [bigSep_opt]; rfl
theorem ats_opt (c : Dev nD) : (bigSep Finset.univ fun k => atPos ER (kcell (c, k)) 0 ∅ 0 : sProp 𝕄) = ats c := by
  rw [bigSep_opt]; rfl

theorem alloc (c : Dev nD) :
    iprop(Pipeline.ownSems0 (Ix := Unit) (Name := ℕ) (U := UU) (Lvl := ℕ) (Val := Elt F) (τ := τ) osem c ∗ unscopedSems0 c ∗ G X Wt c)
      ⊢ |={Set.univ}=> iprop((bigSep Finset.univ fun k => iprop(∃ κ : ℕ, cellInv ER (sched X Wt) κ (kcell (c, k))))
          ∗ (bigSep Finset.univ fun k => (reached ER (kcell (c, k)) 0 : sProp 𝕄)) ∗ ats c ∗ toks c) := by
  unfold G
  rw [ats_opt]
  iintro ⟨Hos, Hus, Hst, ⟨Hat, Hr⟩, Htok⟩
  ihave Hv := (Entails.of_eq ((zeros_eq (F := F) c).symm.trans (zeros_opt c))) $$ [Hos Hus]
  · isplitl [Hus]; · iexact Hus
    iexact Hos
  imod (show iprop((bigSep Finset.univ fun k => semVal (kcell (c, k)) 0) ∗ bigSep Finset.univ fun k => roundState ER (sched X Wt) (kcell (c, k)) 0)
      ⊢ (|={Set.univ}=> bigSep Finset.univ fun k => iprop(∃ κ : ℕ, cellInv ER (sched X Wt) κ (kcell (c, k))) : sProp 𝕄) from by
        rw [← bigSep_sep']
        exact (bigSep_mono fun k _ => (Rounds.body_intro ER (sched X Wt) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

/-- The invariants of all cells under the names `K`. -/
def invs (K : Names) : sProp 𝕄 :=
  iprop((bigSep Finset.univ fun ck => cellInv ER (sched X Wt) (K ck) (kcell ck)) ∗ bigSep Finset.univ fun ck => reached ER (kcell ck) 0)
instance invs_persistent (K : Names) : BI.Persistent (invs (F := F) X Wt K) := by unfold invs; infer_instance

/-- What a device has once the invariants stand. -/
def G' (c : Dev nD) : sProp 𝕄 := iprop(∃ K, invs X Wt K ∗ ats c ∗ toks c)

theorem shared {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem deal :
    (bigSep Finset.univ fun c : Dev nD => iprop((bigSep Finset.univ fun k => iprop(∃ κ : ℕ, cellInv ER (sched X Wt) κ (kcell (c, k))))
          ∗ (bigSep Finset.univ fun k => (reached ER (kcell (c, k)) 0 : sProp 𝕄)) ∗ ats c ∗ toks c) : sProp 𝕄)
      ⊢ bigSep Finset.univ (G' X Wt) := by
  rw [bigSep_sep', bigSep_sep', ← BI.bigSep_univ_prod (fun ck : Dev nD × Option (Fin 4 × Fin 16) => iprop(∃ κ : ℕ, cellInv ER (sched X Wt) κ (kcell ck))),
    ← BI.bigSep_univ_prod (fun ck : Dev nD × Option (Fin 4 × Fin 16) => (reached ER (kcell ck) 0 : sProp 𝕄))]
  iintro ⟨HI, #HR, Hrest⟩
  ihave HK := (show (bigSep Finset.univ fun ck : Dev nD × Option (Fin 4 × Fin 16) => iprop(∃ κ : ℕ, cellInv ER (sched X Wt) κ (kcell ck)))
    ⊢ (iprop(∃ K : Names, bigSep Finset.univ fun ck => cellInv ER (sched X Wt) (K ck) (kcell ck)) : sProp 𝕄) from
      BI.bigSep_exists_pi Finset.univ (fun (ck : Dev nD × Option (Fin 4 × Fin 16)) (κ : ℕ) => (cellInv ER (sched X Wt) κ (kcell ck) : sProp 𝕄))) $$ HI
  icases HK with ⟨%K, #HI⟩
  have hG : ∀ c : Dev nD, iprop(invs X Wt K ∗ ats c ∗ toks c) ⊢ G' X Wt c := fun c => by
    unfold G'
    iintro H
    iexists K; iexact H
  iapply (shared hG)
  isplitr
  · unfold invs; isplitl; · iexact HI
    iexact HR
  · iexact Hrest

/-- The step that all devices take together before the kernel. -/
theorem glob : (bigSep Finset.univ fun c => iprop(Pipeline.ownSems0 (Ix := Unit) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => alloc X Wt c).trans (bigSep_fupd _ _)).trans (BI.fupd_mono (deal X Wt))

end Cert.KernelIdeal.Body

end
-- ==== Proof.Ideal.Credit.lean ====
/- Before the kernel: what the devices owe one another adds up to the credits that each starts with. -/
module

public import proofs.«01_k».proof.Proof.Ideal.Body

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## Sums of debts -/

theorem tail_range {A : Type} [AddCommMonoid A] (f : Fin 15 → A) : ∀ n k : ℕ,
    tail f n k = ∑ i ∈ Finset.range n, if h : k + i < 15 then f ⟨k + i, h⟩ else 0
  | 0, k => rfl
  | n + 1, k => by
    rw [tail, tail_range f n (k + 1), Finset.sum_range_succ']
    refine congrArg₂ _ (Finset.sum_congr rfl fun i _ => ?_) rfl
    have e : k + 1 + i = k + (i + 1) := by omega
    simp only [e]
theorem tail_all {A : Type} [AddCommMonoid A] (f : Fin 15 → A) : tail f 15 0 = ∑ k, f k := by
  rw [tail_range, ← Fin.sum_univ_eq_sum_range (fun i => if h : 0 + i < 15 then f ⟨0 + i, h⟩ else 0) 15]
  refine Finset.sum_congr rfl fun k _ => ?_
  rw [dif_pos (by omega)]
  exact congrArg f (Fin.ext (Nat.zero_add _))

theorem at_cell (f : Fin 15 → CellTallies nD τ sig Unit) (g : GSem nD τ sig) : tail f (15 - 0) 0 g () = ∑ k, f k g () := by
  rw [show tail f (15 - 0) 0 = ∑ k, f k from tail_all f, Finset.sum_apply, Finsupp.finset_sum_apply]

theorem bar_iff {a b : Dev nD} : barCell a = barCell b ↔ a = b :=
  ⟨fun h => congrArg (fun g : GSem nD τ sig => g.1.1) h, fun h => h ▸ rfl⟩
theorem dcell_iff {c c' : Dev nD} {a a' : Fin 4} {s s' : Fin 16} : dCell c a s = dCell c' a' s' ↔ c = c' ∧ a = a' ∧ s = s' :=
  ⟨fun h => ⟨congrArg (fun g : GSem nD τ sig => g.1.1) h, dsem_inj (congrArg Prod.snd h)⟩, fun ⟨h1, h2, h3⟩ => by rw [h1, h2, h3]⟩
theorem dcell_ne_bar {c c' : Dev nD} {a : Fin 4} {s : Fin 16} : dCell c a s ≠ barCell c' := fun h => dma_ne_bar _ (congrArg Prod.snd h)

theorem due_eq (g g' : GSem nD τ sig) (n : ℕ) : (tallyAt g () n : CellTallies nD τ sig Unit) g' () = if g' = g then n else 0 := by
  rw [tallyAt_apply]
  by_cases h : g' = g
  · rw [if_pos ⟨h, rfl⟩, if_pos h]
  · rw [if_neg fun h' => h h'.1, if_neg h]

theorem owes_eq (d : Dev nD) (g : GSem nD τ sig) : O₀ d g () =
    (∑ k, if g = dCell (up d k) 3 d then NA else 0) + (∑ k, if g = dCell (down d k) 1 d then NX else 0) + ∑ k, if g = barCell (up d k) then 1 else 0 := by
  unfold O₀ owA owX owBar
  rw [Pi.add_apply, Finsupp.add_apply, Pi.add_apply, Finsupp.add_apply, at_cell, at_cell, at_cell]
  simp only [due_eq]

theorem count_bar : ∀ c : Dev nD, (∑ d : Dev nD, ∑ k : Fin 15, if c = up d k then 1 else 0) = 15 := by decide +kernel
theorem count_x : ∀ (c : Dev nD) (k₀ : Fin 15), (∑ k : Fin 15, if c = down (up c k₀) k then 1 else 0) = 1 := by decide +kernel
theorem count_a : ∀ (c : Dev nD) (k₀ : Fin 15), (∑ k : Fin 15, if c = up (up c k₀) k then 1 else 0) = 1 := by decide +kernel

theorem due_bar (c : Dev nD) : (∑ d : Dev nD, O₀ d (barCell c) ()) = 15 := by
  rw [← count_bar c]
  refine Finset.sum_congr rfl fun d _ => ?_
  rw [owes_eq, Finset.sum_eq_zero fun k _ => if_neg fun h => dcell_ne_bar h.symm, Finset.sum_eq_zero fun k _ => if_neg fun h => dcell_ne_bar h.symm,
    zero_add, zero_add]
  exact Finset.sum_congr rfl fun k _ => if_congr bar_iff rfl rfl

/-- One debt to cell `(c, a, s)` from device `s` alone. -/
theorem due_one (c s : Dev nD) (n : ℕ) (f : Dev nD → Fin 15 → Dev nD) (a : Fin 4) (h : (∑ k : Fin 15, if c = f s k then 1 else 0) = 1) :
    (∑ d : Dev nD, ∑ k : Fin 15, if dCell c a s = dCell (f d k) a d then n else 0) = n := by
  rw [Fintype.sum_eq_single s fun d hd => Finset.sum_eq_zero fun k _ => if_neg fun e => hd (dcell_iff.mp e).2.2.symm]
  have e : ∀ k, (if dCell c a s = dCell (f s k) a s then n else 0) = n * if c = f s k then 1 else 0 := fun k => by
    rw [mul_ite, mul_one, mul_zero]
    exact if_congr ⟨fun e => (dcell_iff.mp e).1, fun e => dcell_iff.mpr ⟨e, rfl, rfl⟩⟩ rfl rfl
  rw [Finset.sum_congr rfl fun k _ => e k, ← Finset.mul_sum, h, mul_one]

theorem due_x (c : Dev nD) (k₀ : Fin 15) : (∑ d : Dev nD, O₀ d (dCell c 1 (up c k₀)) ()) = NX := by
  rw [← due_one c (up c k₀) NX down 1 (count_x c k₀)]
  refine Finset.sum_congr rfl fun d _ => ?_
  rw [owes_eq, Finset.sum_eq_zero fun k _ => if_neg fun h => absurd (dcell_iff.mp h).2.1 (by decide),
    Finset.sum_eq_zero (f := fun k => if dCell c 1 (up c k₀) = barCell (up d k) then 1 else 0) fun k _ => if_neg dcell_ne_bar, zero_add, add_zero]
theorem due_a (c : Dev nD) (k₀ : Fin 15) : (∑ d : Dev nD, O₀ d (dCell c 3 (up c k₀)) ()) = NA := by
  rw [← due_one c (up c k₀) NA up 3 (count_a c k₀)]
  refine Finset.sum_congr rfl fun d _ => ?_
  rw [owes_eq, Finset.sum_eq_zero (f := fun k => if dCell c 3 (up c k₀) = dCell (down d k) 1 d then NX else 0) fun k _ => if_neg fun h => absurd (dcell_iff.mp h).2.1 (by decide),
    Finset.sum_eq_zero (f := fun k => if dCell c 3 (up c k₀) = barCell (up d k) then 1 else 0) fun k _ => if_neg dcell_ne_bar, add_zero, add_zero]

/-! ## The credits -/

theorem credit_eq (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, h]

/-- The semaphores on which a device is owed something. -/
def dueSem (c : Dev nD) : Option (Fin 2 × Fin 15) → SemLoc sig
  | none => .reg barS
  | some (0, k) => .dma (dsem 1 (up c k))
  | some (1, k) => .dma (dsem 3 (up c k))
theorem dueSem_inj (c : Dev nD) : Function.Injective (dueSem c) := by
  have key : ∀ x, which (dueSem c x) = x.map fun p => ((![1, 3] : Fin 2 → Fin 4) p.1, up c p.2) := by
    rintro (_ | ⟨j, k⟩)
    · rfl
    · fin_cases j
      · exact which_dsem 1 (up c k)
      · exact which_dsem 3 (up c k)
  intro x y h
  have h := congrArg which h
  rw [key, key] at h
  refine Option.map_injective ?_ h
  rintro ⟨j, k⟩ ⟨j', k'⟩ e
  obtain ⟨e1, e2⟩ := Prod.mk.inj e
  have e1 : j = j' := (by decide : Function.Injective (![1, 3] : Fin 2 → Fin 4)) e1
  exact Prod.ext e1 (up_inj c e2)

theorem bigSep_due (Φ : Option (Fin 2 × Fin 15) → sProp 𝕄) :
    bigSep Finset.univ Φ = iprop(Φ none ∗ (bigSep Finset.univ fun k => Φ (some (0, k))) ∗ bigSep Finset.univ fun k => Φ (some (1, k))) := by
  rw [BI.bigSep_erase (Finset.mem_univ none),
    show (Finset.univ : Finset (Option (Fin 2 × Fin 15))).erase none = Finset.univ.map ⟨some, Option.some_injective _⟩ from by decide,
    BI.bigSep_map, BI.bigSep_univ_prod, bigSep_univ_eq_bigSepL [0, 1] (by decide) (by decide)]
  rfl

theorem credits (c : Dev nD) : (Pipeline.launchCred O₀ c : sProp 𝕄) ⊢ creds c := by
  unfold Pipeline.launchCred
  refine BIBase.Entails.trans (show _ ⊢ bigSep (Finset.univ.map ⟨dueSem c, dueSem_inj c⟩)
    (fun sm : SemLoc sig => (cred (tallyOn ((c : Thread nD τ), sm) (launchCredit (Pipeline.owing O₀) 0 ((c : Thread nD τ), sm))) : sProp 𝕄)) from
      BI.bigSep_subset (Finset.subset_univ _)) ?_
  rw [BI.bigSep_map, bigSep_due]
  unfold creds
  refine Entails.of_eq (congrArg₂ _ ?_ (congrArg₂ _ ?_ ?_))
  · exact congrArg _ (credit_eq c (.reg barS) 15 (due_bar c))
  · exact bigSep_congr fun k _ => congrArg _ (credit_eq c (.dma (dsem 1 (up c k))) NX (due_x c k))
  · exact bigSep_congr fun k _ => congrArg _ (credit_eq c (.dma (dsem 3 (up c k))) NA (due_a c k))

end Cert.KernelIdeal.Body

end
-- ==== Proof.Ideal.Run.lean ====
/- The run of @main: sixteen devices from any memory with all counters at zero. -/
module

public import Idealize.ShloMosaic.Lib.Pipeline.CollectiveSegs
public import proofs.«01_k».proof.Proof.Ideal.Device
public import proofs.«01_k».proof.Proof.Ideal.Mint
public import proofs.«01_k».proof.Proof.Ideal.Credit
public import proofs.«01_k».proof.Proof.Gen.KernelIdeal.Points

@[expose] public section

set_option maxRecDepth 20000

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ) (ρ : Dev nD → PrngReg)

/-- What each device stages of `x` and of `w`. -/
def xOf (c : Dev nD) : Vec F S4096x256 .f32 := (win0_0.blk (0 : Fin 1)).view.read (Elt F) (m ((c : Thread nD τ).loc main_arg0))
def wOf (c : Dev nD) : Vec F S4096x2048 .f32 := (win0_1.blk (0 : Fin 1)).view.read (Elt F) (m ((c : Thread nD τ).loc main_arg1))

/-- What a device has for the kernel beside its buffers. -/
def start (c : Dev nD) : sProp 𝕄 :=
  iprop(∃ K, ctx (xOf m) (wOf m) K ∗ toks c ∗ ats c ∗ creds c)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wOf m c
    | ⟨2, _⟩ => OutV (xOf m) (wOf m) c
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def pre (c : Dev nD) : sProp 𝕄 :=
  iprop((start m c ∗ scratch c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def post (c : Dev nD) : sProp 𝕄 :=
  iprop((zeros c ∗ scratch c) ∗ (dats m 0 c).owesAt () t0_0.succ
    ∗ stg c cc0_stg0_0 (xOf m c) ∗ stg c cc0_stg1_0 (wOf m c) ∗ stg c cc0_stg2_0 (OutV (xOf m) (wOf m) c))

attribute [local irreducible] flat in
theorem runs (c : Dev nD) : pre m c ⊢ wp frame (wpE (defs₀ (F := F)) 𝒱₀ (c : Thread nD τ) none) Set.univ
    (Prog.op .deviceId fun c => flat (F := F) c) (fun _ => post m c) := by
  rw [wp_deviceId]
  unfold pre start
  iintro ⟨⟨⟨%K, #Hc, Ht, Ha, Hcr⟩, Hs⟩, Ho, ⟨%d0, %g0, %hg0, Hx⟩, ⟨%d1, %g1, %hg1, Hw⟩, ⟨%d2, %g2, %hg2, Hout⟩⟩
  have hx : g0 = xOf m c := by rw [hg0]; unfold Dat.before; rw [if_pos (fetch0_0 t0_0)]; rfl
  have hw : g1 = wOf m c := by rw [hg1]; unfold Dat.before; rw [if_pos (fetch0_1 t0_0)]; rfl
  subst hx hw
  unfold Dat.owesAt Pipeline.owesWithin
  icases Ho with ⟨%W, %hW, HO⟩
  have h := flat_tri (X := xOf m) (Wt := wOf m) (K := K) (c := c)
  unfold Tri at h
  have hm : exit (xOf m) (wOf m) c ⊢ post m c := by
    unfold exit post owe Dat.owesAt Pipeline.owesWithin
    iintro ⟨Hz, ⟨%W', HO⟩, ⟨Hx, Hw, Ho⟩, Hs⟩
    isplitl [Hz Hs]
    · isplitl [Hz]; · iexact Hz
      iexact Hs
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho
  iapply (wp_mono _ _ _ fun _ => hm)
  iapply h
  isplitr; · iexact Hc
  unfold entry owe
  isplitl [Ht Ha Hcr]
  · isplitl [Ht]; · iexact Ht
    isplitl [Ha]; · iexact Ha
    iexact Hcr
  isplitl [HO]; · iexists W; iexact HO
  isplitl [Hx Hw Hout]
  · isplitl [Hx]; · iexact Hx
    isplitl [Hw]; · iexact Hw
    iexists _; iexact Hout
  iexact Hs

attribute [local irreducible] cc0_body flat start scratch zeros OutV xOf wOf O₀ in
/-- The launch's obligation on the kernel body. -/
theorem obligation (c : Dev nD) : BodyObligation (dats (F := F) m 0 c) (defs₀ (F := F)) 𝒱₀ () Set.univ := fun t => by
  rw [fin_N0 t]
  rw [bigSep_W0, bigSep_W0]
  simp only [owns_whole]
  show pre m c ⊢ wp frame (wpE (defs₀ (F := F)) 𝒱₀ c none) Set.univ
    (cc0_body (F := F) xM (Memref.isWhole_whole _) wM (Memref.isWhole_whole _) oM (Memref.isWhole_whole _) bM (Memref.isWhole_whole _)
      rM (Memref.isWhole_whole _) sM (Memref.isWhole_whole _) aM (Memref.isWhole_whole _) cc0_scratch4 cc0_scratch5 cc0_scratch6 cc0_scratch7) (fun _ => post m c)
  rw [body_eq]
  exact runs m c

/-! ## The launch -/

theorem ownSemFacts : Pipeline.OwnSemFacts cfg0.spec osem where
  isScoped := by decide
  inj := fun p q h => Prod.ext (dsem_inj h).1 (dsem_inj h).2
  disj := by decide

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) (wOf m) c)
      ⊢ |={Set.univ}=> iprop(start m c ∗ emp) := by
  iintro ⟨-, Hlev, Hcr, -, HG⟩
  ihave Hc := (credits (F := F) c) $$ Hcr
  unfold start G' invs ctx
  icases HG with ⟨%K, ⟨HI, HR⟩, Hat, Ht⟩
  imodintro
  isplitl
  · iexists K
    isplitl [HI HR Hlev]
    · isplitl [HI]; · iexact HI
      isplitl [HR]; · iexact HR
      iexact Hlev
    isplitl [Ht]; · iexact Ht
    isplitl [Hat]; · iexact Hat
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros c ∗ scratch c) from rfl, scopedRest0_eq, zeros_eq]
  unfold scratch
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

def s₀ : MemSt nD τ sig (Elt F) := ⟨m, fun _ => 0, ρ⟩

/-- What the run ends in. -/
def Ends (r : PUnit × MemSt nD τ sig (Elt F)) : Prop :=
  ∀ c : Dev nD, ∀ w : Fin cfg0.W, r.2.mem ((cfg0.win w).arr.view.loc (c : Thread nD τ)) = (dats m 0 c).arrAt w cfg0.N

attribute [local irreducible] cc0_body start scratch zeros OutV xOf wOf O₀ G G' L lv in
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => obligation m c) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (xOf m) (wOf m)) (G' := G' (xOf m) (wOf m)) (u₀ := u₀)
    (hu₀ := by
      unfold u₀
      iintro Hu
      ihave H := (ownU_pair _ _) $$ Hu
      icases H with ⟨HP, HX⟩
      imod (made (xOf m) (wOf m)) $$ HX with HG
      imodintro
      isplitl [HP]; · iexact HP
      iexact HG)
    (hglob := glob (xOf m) (wOf m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Body

end
-- ==== Proof.Ideal.Result.lean ====
/- What the arrays hold after the run: the arguments as they were, the result at the composed value. -/
module

public import proofs.«01_k».proof.Proof.Ideal.Run
public import Idealize.ShloMosaic.Lib.Pipeline.ValueKit.Geometry
public import Idealize.ShloMosaic.Lib.Pipeline.Value

@[expose] public section

set_option maxRecDepth 20000

noncomputable section

namespace Cert.KernelIdeal.Body

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A place of the one block of the first argument is that place of the array. -/
theorem place0 (i : S4096x256.Idx) : (win0_0.blk (0 : Fin 1)).view.emb i = i := by
  funext a; apply Fin.ext
  refine (ValueKit.view_emb_slice_whole_unit_val main_arg0 _ _ _ i a).trans ?_
  match a with
  | ⟨0, _⟩ => exact Nat.zero_add _
  | ⟨1, _⟩ => exact Nat.zero_add _

/-- The same of the second argument. -/
theorem place1 (i : S4096x2048.Idx) : (win0_1.blk (0 : Fin 1)).view.emb i = i := by
  funext a; apply Fin.ext
  refine (ValueKit.view_emb_slice_whole_unit_val main_arg1 _ _ _ i a).trans ?_
  match a with
  | ⟨0, _⟩ => exact Nat.zero_add _
  | ⟨1, _⟩ => exact Nat.zero_add _

/-- The same of the result. -/
theorem place2 (i : S256x2048.Idx) : (win0_2.blk (0 : Fin 1)).view.emb i = i := by
  funext a; apply Fin.ext
  refine (ValueKit.view_emb_slice_whole_unit_val main_v1 _ _ _ i a).trans ?_
  match a with
  | ⟨0, _⟩ => exact Nat.zero_add _
  | ⟨1, _⟩ => exact Nat.zero_add _

theorem xOf_eq (c : Dev nD) : xOf m c = m ((c : Thread nD τ).loc main_arg0) := by
  funext i
  exact congrArg (m ((c : Thread nD τ).loc main_arg0)) (place0 i)

theorem wOf_eq (c : Dev nD) : wOf m c = m ((c : Thread nD τ).loc main_arg1) := by
  funext i
  exact congrArg (m ((c : Thread nD τ).loc main_arg1)) (place1 i)

theorem read2 (G : S256x2048.Idx → Elt F .f32) : (win0_2.blk (0 : Fin 1)).view.read (Elt F) G = G := by
  funext i
  exact congrArg G (place2 i)

attribute [local irreducible] OutV xOf wOf in
theorem result_eq (c : Dev nD) : (dats m 0 c).arrAt (2 : Fin 3) cfg0.N = OutV (xOf m) (wOf m) c := by
  have ha : (dats m 0 c).after (2 : Fin 3) t0_0 = OutV (xOf m) (wOf m) c := rfl
  refine (dats m 0 c).arrAt_eq_of_cover (2 : Fin 3) (OutV (xOf m) (wOf m) c) (fun t _ => ?_) fun i => ⟨t0_0, flush0_2 _, ?_⟩
  · obtain rfl := fin_N0 t
    unfold Pipeline.Dat.flushed
    rw [ha]
    exact (read2 _).symm
  · have h := (win0_2.blk (0 : Fin 1)).view.emb_mem_set i
    rw [place2 i] at h
    exact h

/-- The run read at the three arrays, every counter back at zero. -/
theorem run_arrays : θ_run defs (onTc (τ := τ) (main (F := F))) ⟨m, fun _ => 0, ρ⟩ (fun r => (∀ c : Dev nD,
      r.2.mem ((c.tc : Thread nD τ).loc main_v1) = OutV (xOf m) (wOf m) c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c 2).trans (result_eq m c),
      (h.1 c 0).trans ((dats m 0 c).arrAt_in (0 : Fin 3) rfl _),
      (h.1 c 1).trans ((dats m 0 c).arrAt_in (1 : Fin 3) rfl _)⟩, h.2⟩) (run_main m ρ)

end Cert.KernelIdeal.Body

end
-- ==== Proof.Value.Product.lean ====
/- In exact arithmetic the four grouped products on a device add up to its rows of the whole product. -/
module

public import proofs.«01_k».proof.Proof.Ideal.Proto
public import Idealize.ShloMosaic.Lib.Layout
public import Idealize.ShloMosaic.Lib.ValueIdx
public import Idealize.ShloMosaic.Lib.Pointwise.Contract
public import Idealize.ShloMosaic.Lib.Pipeline.ValueKit.Geometry
public import Idealize.ShloMosaic.Lib.Pipeline.Value
public import Idealize.ShloMosaic.PureOps.Ideal.Laws

@[expose] public section

set_option maxRecDepth 20000

noncomputable section

namespace Cert.KernelIdeal.Body

open Cert.KernelIdeal Cert.KernelIdeal.Gen
open Idealize.ShloMosaic hiding ix2 ix3 eq_ix2 eq_ix3
open Idealize.ShloMosaic.TcCoe
open Idealize.ShloMosaic.ValueIdx (ix2 ix3 eq_ix2 eq_ix3)

/-- The shapes of the whole arrays. -/
abbrev SA : Shape := ⟨2, ![4096, 4096]⟩
abbrev SB : Shape := ⟨2, ![4096, 2048]⟩

variable (A : SA.Idx → EReal) (B : SB.Idx → EReal)

/-- The whole product. -/
def prod : SB.Idx → EReal := fun i => ∑ k : Fin 4096, A (ix2 (i 0) k) * B (ix2 k (i 1))

/-- Row `r` of device `c`'s block, in the whole array. -/
def rowOf (c : Dev nD) (r : Fin 256) : Fin 4096 := ⟨256 * c.val + r.val, by have h : c.val < 16 := c.isLt; omega⟩

/-- Which quarter of the contracted axis group `j` is, on device `c`. -/
def quarter (c : Dev nD) (j : Fin 4) : Fin 4 := ⟨(c.val / 4 + j.val) % 4, Nat.mod_lt _ (by decide)⟩

/-- Place `k` of a quarter, in the whole axis. -/
def along (t : Fin 4) (k : Fin 1024) : Fin 4096 := ⟨1024 * t.val + k.val, by omega⟩

/-- Every device's block of the first argument. -/
abbrev blocks : Dev nD → Vec Ideal S4096x256 .f32 := fun c => Layout.block ⟨2, ![4096, 256]⟩ ⟨2, ![4096, 4096]⟩ 1 16 c A

/-- The bf16 copy holds the block itself: a change of format is the identity. -/
theorem XB_at (c : Dev nD) (a : Fin 4096) (b : Fin 256) :
    XB (F := Ideal) (blocks A) c (ix2 a b) = A (ix2 a (⟨256 * c.val + b.val, by have h : c.val < 16 := c.isLt; omega⟩ : Fin 4096)) := by
  unfold XB k0_pay1
  simp only [shapeCast_self]
  refine congrArg A (funext fun d => Fin.ext ?_)
  refine (Layout.Tiles.idx_val (S := ⟨2, ![4096, 256]⟩) (T := SA) (a := 1) (k := 16) (by decide) c (ix2 a b) d).trans ?_
  match d with
  | ⟨0, _⟩ => rfl
  | ⟨1, _⟩ => exact congrArg (· + b.val) (Nat.mul_comm _ _)

/-- The `j`-th unpacked group on device `c`: its rows of `x`, at a quarter of the columns. -/
theorem SG_at (c : Dev nD) (j : Fin 4) (r : Fin 256) (k : Fin 1024) :
    SG (F := Ideal) (blocks A) c j (ix2 r k) = A (ix2 (rowOf c r) (along (quarter c j) k)) := by
  unfold SG widen k0_pay4
  simp only [shapeCast_self]
  refine (shapeCast_dropUnit_apply (α := EReal) ![256, 256]
    (fun u => XR (F := Ideal) (blocks A) c (ix3 (slotOf c j ⟨k.val / 256, by omega⟩) (u 1) (u 2))) shapeCasts_S1x256x256_S256x256
    (ix2 r (⟨k.val % 256, Nat.mod_lt _ (by decide)⟩ : Fin 256))).trans ?_
  refine (XB_at A (slotOf c j ⟨k.val / 256, by omega⟩) (rowOf c r) (⟨k.val % 256, Nat.mod_lt _ (by decide)⟩ : Fin 256)).trans ?_
  refine congrArg (fun q => A (ix2 (rowOf c r) q)) (Fin.ext ?_)
  show 256 * (4 * ((c.val / 4 + j.val) % 4) + k.val / 256) + k.val % 256 = 1024 * ((c.val / 4 + j.val) % 4) + k.val
  omega

/-- Where the rows of `w` that go with group `j` begin. -/
theorem off15_at : ∀ (c : Dev nD) (j : Fin 4), k0_off15 c (BitVec.ofNat 32 j.val) = ![1024 * ((c.val / 4 + j.val) % 4), 0] := by decide +kernel

/-- The rows of `w` that go with group `j`. -/
theorem WG_at (c : Dev nD) (j : Fin 4) (k : Fin 1024) (b : Fin 2048) :
    WG (F := Ideal) (fun _ => B) c j (ix2 k b) = B (ix2 (along (quarter c j) k) b) := by
  unfold WG
  rw [View.readAt_apply]
  refine congrArg B (funext fun d => Fin.ext ?_)
  refine (ValueKit.rect_emb_unit_val (s := S4096x2048) _ _ _ (ix2 k b) d).trans ?_
  refine (congrFun (congrArg (fun o : Fin 2 → ℕ => fun d => o d + (ix2 k b d).val) (off15_at c j)) d).trans ?_
  match d with
  | ⟨0, _⟩ => rfl
  | ⟨1, _⟩ => exact Nat.zero_add _

/-- One group's product at a place. -/
def part (i : SB.Idx) (t : Fin 4) : EReal := ∑ k : Fin 1024, A (ix2 (i 0) (along t k)) * B (ix2 (along t k) (i 1))

/-- The whole product is the four quarters' added. -/
theorem prod_parts (i : SB.Idx) : prod A B i = ∑ t : Fin 4, part A B i t := by
  unfold prod part
  rw [← Fintype.sum_prod_type' (f := fun (t : Fin 4) (k : Fin 1024) => A (ix2 (i 0) (along t k)) * B (ix2 (along t k) (i 1)))]
  rw [← (finProdFinEquiv (m := 4) (n := 1024)).sum_comp]
  refine Finset.sum_congr rfl fun p _ => ?_
  have h : (finProdFinEquiv (m := 4) (n := 1024)) p = along p.1 p.2 := Fin.ext (Nat.add_comm _ _)
  rw [h]

/-- In whatever place the quarters start, they are all taken. -/
theorem turn (f : Fin 4 → EReal) (c : Dev nD) :
    ((f (quarter c 0) + f (quarter c 1)) + f (quarter c 2)) + f (quarter c 3) = ∑ t : Fin 4, f t := by
  have hs : ∑ t : Fin 4, f t = ∑ j : Fin 4, f (quarter c j) := by
    refine (Function.Bijective.sum_comp (g := f) (e := quarter c) ?_).symm
    revert c; decide
  rw [hs, Fin.sum_univ_four]

theorem dot_at (l : FVec Ideal S256x1024 .f32) (r : FVec Ideal S1024x2048 .f32) (a : Fin 256) (b : Fin 2048) :
    matmul (F := Ideal) dot_S256x1024_S1024x2048_S256x2048_1_0_0_1_n_n none l r (constant S256x2048 .f32 0x00000000#32) (ix2 a b)
      = ∑ k : Fin 1024, l (ix2 a k) * r (ix2 k b) := by
  refine (Ideal.matmul_apply₁_of dot_S256x1024_S1024x2048_S256x2048_1_0_0_1_n_n (a := 1) (K := 1024) rfl rfl l r _ (ix2 a b) (fun k => ix2 a k) (fun k => ix2 k b) ?_ ?_).trans ?_
  · intro k; funext d; match d with
    | ⟨0, _⟩ => rfl
    | ⟨1, _⟩ => rfl
  · intro k; funext d; match d with
    | ⟨0, _⟩ => rfl
    | ⟨1, _⟩ => rfl
  · show Ideal.ofBits .f32 0x00000000#32 + _ = _
    rw [Ideal.ofBits_zero_f32, zero_add]

theorem first_at (l : FVec Ideal S256x1024 .f32) (r : FVec Ideal S1024x2048 .f32) (a : Fin 256) (b : Fin 2048) :
    k0_pay8 (F := Ideal) l r (ix2 a b) = ∑ k : Fin 1024, l (ix2 a k) * r (ix2 k b) := by
  unfold k0_pay8
  simp only [shapeCast_self]
  exact dot_at l r a b

theorem next_at (l : FVec Ideal S256x1024 .f32) (r : FVec Ideal S1024x2048 .f32) (y : Vec Ideal S256x2048 .f32) (a : Fin 256) (b : Fin 2048) :
    k0_pay13 (F := Ideal) l r y (ix2 a b) = y (ix2 a b) + ∑ k : Fin 1024, l (ix2 a k) * r (ix2 k b) := by
  unfold k0_pay13
  simp only [shapeCast_self]
  exact congrArg (y (ix2 a b) + ·) (dot_at l r a b)

theorem group_at (c : Dev nD) (j : Fin 4) (a : Fin 256) (b : Fin 2048) :
    ∑ k : Fin 1024, SG (F := Ideal) (blocks A) c j (ix2 a k) * WG (F := Ideal) (fun _ => B) c j (ix2 k b)
      = part A B (ix2 (rowOf c a) b) (quarter c j) := by
  simp only [SG_at, WG_at]; rfl

/-- What a device has before it quantises is its rows of the whole product. -/
theorem Y4_at (c : Dev nD) (a : Fin 256) (b : Fin 2048) :
    Y4 (F := Ideal) (blocks A) (fun _ => B) c (ix2 a b) = prod A B (ix2 (rowOf c a) b) := by
  unfold Y4 Y3 Y2 Y1
  rw [next_at, next_at, next_at, first_at, group_at, group_at, group_at, group_at, turn, prod_parts]

end Cert.KernelIdeal.Body

end
-- ==== Proof.Value.Quantise.lean ====
/- In exact arithmetic the maximum the devices agree on is the whole product's, so each quantises its rows as the
   reference quantises the whole. -/
module

public import proofs.«01_k».proof.Proof.Value.Product
public import proofs.«01_k».proof.Proof.Gen.ReferenceIdeal
public import Idealize.ShloMosaic.PureOps.Reduce

@[expose] public section

set_option maxRecDepth 20000

noncomputable section

namespace Cert.KernelIdeal.Body

open Cert.KernelIdeal Cert.KernelIdeal.Gen
open Idealize.ShloMosaic hiding ix2 ix3 eq_ix2 eq_ix3
open Idealize.ShloMosaic.TcCoe
open Idealize.ShloMosaic.ValueIdx (ix2 ix3 eq_ix2 eq_ix3)

variable (A : SA.Idx → EReal) (B : SB.Idx → EReal)

/-- The absolute value. -/
def mag (x : EReal) : EReal := max x (-x)

/-- The greatest absolute value of the whole product. -/
def greatest : EReal := ⨆ i : SB.Idx, mag (prod A B i)

/-- The step of the quantiser when the greatest absolute value is `g`. -/
def step (g : EReal) : EReal := Ideal.div (max g (Ideal.ofBits .f32 0x1E3CE508#32)) (Ideal.ofBits .f32 0x42FE0000#32)

/-- One element quantised and restored. -/
def quant (g y : EReal) : EReal :=
  min (Ideal.ofBits .f32 0x42FE0000#32) (max (Ideal.ofBits .f32 0xC2FE0000#32) (Ideal.liftRound Ideal.roundHalfEven (Ideal.div y (step g)))) * step g

/-- The word a maximum starts from is the lowest value. -/
theorem lowest : Ideal.ofBits .f32 0xFF800000#32 = ⊥ := by simp [Ideal.ofBits, Ideal.ieee]

/-- A maximum taken from the lowest value over every index is the supremum. -/
theorem fold_all {ι : Type} [Fintype ι] (p : ι → Prop) [DecidablePred p] (hp : ∀ i, p i) (f : ι → EReal) (b : EReal) (hb : b = ⊥) :
    (Finset.univ.filter p).fold max b f = ⨆ i, f i := by
  subst hb
  rw [Finset.filter_true_of_mem fun i _ => hp i, ← Finset.sup_univ_eq_iSup]
  rfl

/-- Reshaping does not change a supremum. -/
theorem sup_cast {s t : Shape} (h : s.ShapeCasts t) (f : s.Idx → EReal) : ⨆ i, shapeCast t f h i = ⨆ i, f i :=
  (Shape.reshapeEquiv h).iSup_comp (g := f)

/-- A single element has a single index. -/
theorem one_S1 (i j : S1.Idx) : i = j := by
  funext a
  match a with
  | ⟨0, _⟩ => exact Subsingleton.elim (α := Fin 1) _ _

/-- The maximum over a device's rows, from the lowest value. -/
theorem rows_max (y : FVec Ideal S256x2048 .f32) :
    multiReduction (F := Ideal) .maximumf [1, 2] S1 (shapeCast S1x256x2048 (absf (φ := .f32) y) shapeCasts_S256x2048_S1x256x2048)
      0xFF800000#32 reduces_S1x256x2048_S1 (.inl rfl) rfl = fun _ => ⨆ k, mag (y k) :=
  funext fun j =>
    (multiReduction_maximumf_eq_fold (F := Ideal) _ _ reduces_S1x256x2048_S1 _ _ _).trans
      ((fold_all _ (fun i => one_S1 _ _) _ _ lowest).trans (sup_cast shapeCasts_S256x2048_S1x256x2048 fun k => mag (y k)))

/-- What a device sends of its own rows, at every place: their greatest absolute value. -/
theorem sent_at (y : FVec Ideal S256x2048 .f32) (i : S1x8x128.Idx) : k0_pay25 (F := Ideal) y i = ⨆ k, mag (y k) := by
  unfold k0_pay25
  simp only [shapeCast_self]
  rw [rows_max]
  rfl

/-- Every place of the whole product is a place of some device's rows. -/
theorem found (i : SB.Idx) : ∃ (c : Dev nD) (a : Fin 256), ix2 (rowOf c a) (i 1) = i := by
  have h : (i 0).val < 4096 := (i 0).isLt
  refine ⟨⟨(i 0).val / 256, by show _ < 16; omega⟩, ⟨(i 0).val % 256, Nat.mod_lt _ (by decide)⟩, ?_⟩
  conv_rhs => rw [eq_ix2 i]
  refine congrArg (fun q => ix2 q (i 1)) (Fin.ext ?_)
  show 256 * ((i 0).val / 256) + (i 0).val % 256 = (i 0).val
  omega

/-- The greatest of the sixteen devices' maxima is the whole product's. -/
theorem agreed : ⨆ i, AM (F := Ideal) (blocks A) (fun _ => B) i = greatest A B := by
  unfold AM greatest
  simp only [sent_at]
  apply le_antisymm
  · refine iSup_le fun i => iSup_le fun k => ?_
    obtain ⟨a, b, rfl⟩ : ∃ a b, k = ix2 a b := ⟨_, _, eq_ix2 k⟩
    refine (congrArg mag (Y4_at A B (i 0) a b)).trans_le ?_
    exact le_iSup (fun i => mag (prod A B i)) (ix2 (rowOf (i 0) a) b)
  · refine iSup_le fun i => ?_
    obtain ⟨c, a, h⟩ := found i
    refine (congrArg (fun q => mag (prod A B q)) h.symm).trans_le ((congrArg mag (Y4_at A B c a (i 1)).symm).trans_le ?_)
    exact le_iSup_of_le (ix3 c (0 : Fin 8) (0 : Fin 128)) (le_iSup (fun k => mag (Y4 (F := Ideal) (blocks A) (fun _ => B) c k)) (ix2 a (i 1)))

/-- The maximum over what the devices send, from the lowest value. -/
theorem sent_max (v : FVec Ideal S16x8x128 .f32) :
    multiReduction (F := Ideal) .maximumf [1, 2, 3] S1 (shapeCast S1x16x8x128 v shapeCasts_S16x8x128_S1x16x8x128)
      0xFF800000#32 reduces_S1x16x8x128_S1 (.inl rfl) rfl = fun _ => ⨆ k, v k :=
  funext fun j =>
    (multiReduction_maximumf_eq_fold (F := Ideal) _ _ reduces_S1x16x8x128_S1 _ _ _).trans
      ((fold_all _ (fun i => one_S1 _ _) _ _ lowest).trans (sup_cast shapeCasts_S16x8x128_S1x16x8x128 v))

/-- The last payload: every element quantised by the greatest of the maxima it is given. -/
theorem last_at (v : FVec Ideal S16x8x128 .f32) (y : FVec Ideal S256x2048 .f32) (i : S256x2048.Idx) :
    k0_pay26 (F := Ideal) v y i = quant (⨆ k, v k) (y i) := by
  unfold k0_pay26
  simp only [shapeCast_self]
  rw [sent_max]
  rfl

/-- A device's result: its rows of the product, quantised by the whole product's greatest absolute value. -/
theorem OutV_at (c : Dev nD) (a : Fin 256) (b : Fin 2048) :
    OutV (F := Ideal) (blocks A) (fun _ => B) c (ix2 a b) = quant (greatest A B) (prod A B (ix2 (rowOf c a) b)) := by
  unfold OutV
  rw [last_at, agreed, Y4_at]

end Cert.KernelIdeal.Body

namespace Cert.ReferenceIdeal.Meaning

open Cert.ReferenceIdeal Cert.ReferenceIdeal.Gen
open Idealize.ShloMosaic hiding ix2 ix3 eq_ix2 eq_ix3
open Idealize.ShloMosaic.ValueIdx (ix2 ix3 eq_ix2 eq_ix3)
open Cert.KernelIdeal.Body (prod mag greatest quant)

variable (A : S4096x4096.Idx → EReal) (B : S4096x2048.Idx → EReal)

/-- The reference's product is the whole product. -/
theorem dot_eq : Host.dotGeneral (F := Ideal) (φ₁ := .f32) (φ₂ := .f32) dot_S4096x4096_S4096x2048_S4096x2048_1_0_0_1_n_n none A B = prod A B := by
  funext i
  refine (Ideal.matmul_apply₁_of dot_S4096x4096_S4096x2048_S4096x2048_1_0_0_1_n_n (a := 1) (K := 4096) rfl rfl A B _ i
    (fun k => ix2 (i 0) k) (fun k => ix2 k (i 1)) ?_ ?_).trans ?_
  · intro k; funext d; match d with
    | ⟨0, _⟩ => rfl
    | ⟨1, _⟩ => rfl
  · intro k; funext d; match d with
    | ⟨0, _⟩ => rfl
    | ⟨1, _⟩ => rfl
  · exact zero_add _

/-- The reference's maximum is the whole product's. -/
theorem max_eq (y : FVec Ideal S4096x2048 .f32) (j : S_.Idx) :
    Host.reduce (FloatOps.maximumf (F := Ideal) (φ := .f32)) (Host.absf y) (constant S_ .f32 0xFF800000#32) reducesTo_S4096x2048_S_d0_1 h_S_ j
      = ⨆ i, mag (y i) := by
  rw [Host.reduce_eq_fold]
  refine (Cert.KernelIdeal.Body.fold_all _ (fun i => ?_) _ _ Cert.KernelIdeal.Body.lowest).trans rfl
  funext a; exact a.elim0

/-- What the reference computes. -/
def result : S4096x2048.Idx → EReal := fun i => quant (greatest A B) (prod A B i)

/-- The composed term of the reference's operations is that result. -/
theorem result_eq :
    mulf (minimumf (broadcastInDim S4096x2048 ![] bcast_S_S4096x2048 (id (constant S_ .f32 0x42FE0000#32))) (maximumf (broadcastInDim S4096x2048 ![] bcast_S_S4096x2048 (id (constant S_ .f32 0xC2FE0000#32))) (Host.roundeven (Host.divf (Host.dotGeneral (F := Ideal) (φ₁ := .f32) (φ₂ := .f32) dot_S4096x4096_S4096x2048_S4096x2048_1_0_0_1_n_n none A B) (broadcastInDim S4096x2048 ![] bcast_S_S4096x2048 (Host.divf (maximumf (Host.reduce (FloatOps.maximumf (F := Ideal) (φ := .f32)) (Host.absf (Host.dotGeneral (F := Ideal) (φ₁ := .f32) (φ₂ := .f32) dot_S4096x4096_S4096x2048_S4096x2048_1_0_0_1_n_n none A B)) (constant S_ .f32 0xFF800000#32) reducesTo_S4096x2048_S_d0_1 h_S_) (constant S_ .f32 0x1E3CE508#32)) (constant S_ .f32 0x42FE0000#32))))))) (broadcastInDim S4096x2048 ![] bcast_S_S4096x2048 (Host.divf (maximumf (Host.reduce (FloatOps.maximumf (F := Ideal) (φ := .f32)) (Host.absf (Host.dotGeneral (F := Ideal) (φ₁ := .f32) (φ₂ := .f32) dot_S4096x4096_S4096x2048_S4096x2048_1_0_0_1_n_n none A B)) (constant S_ .f32 0xFF800000#32) reducesTo_S4096x2048_S_d0_1 h_S_) (constant S_ .f32 0x1E3CE508#32)) (constant S_ .f32 0x42FE0000#32)))
      = result A B := by
  rw [dot_eq]
  have hr : Host.reduce (FloatOps.maximumf (F := Ideal) (φ := .f32)) (Host.absf (φ := .f32) (prod A B)) (constant S_ .f32 0xFF800000#32) reducesTo_S4096x2048_S_d0_1 h_S_
      = fun _ => greatest A B := funext fun j => max_eq (prod A B) j
  rw [hr]
  funext i
  rfl

end Cert.ReferenceIdeal.Meaning

end
-- ==== Proof.lean ====
module

public import proofs.«01_k».proof.Defs
public import proofs.«01_k».proof.Proof.Exact.Result
public import proofs.«01_k».proof.Proof.Ideal.Result
public import proofs.«01_k».proof.Proof.Value.Quantise
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel as printed runs and leaves its arguments and every counter as they were. -/
theorem quiet_kernel : Cert.quiescent_Kernel (hKernel := Cert.Kernel.Gen.facts) := fun m g _ =>
  (θ_run Cert.Kernel.defs _ _).mono (fun _ h => ⟨fun c => (h.1 c).2, h.2⟩) (Cert.Kernel.Body.run_arrays (F := Bits) m g)

/-- So does the kernel read in exact arithmetic. -/
theorem quiet_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Body.run_arrays (F := Ideal) m g)

/-- So does the reference, which declares no counter. -/
theorem quiet_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

section
open Cert.KernelIdeal.Body
attribute [local irreducible] OutV xOf wOf prod greatest

/-- A device's result is its block of rows of what the reference computes. -/
theorem rows_of_result (A : SA.Idx → EReal) (B : SB.Idx → EReal) (c : Dev Cert.KernelIdeal.nD) :
    OutV (F := Ideal) (blocks A) (fun _ => B) c
      = Layout.block ⟨2, ![256, 2048]⟩ ⟨2, ![4096, 2048]⟩ 0 16 c (Cert.ReferenceIdeal.Meaning.result A B) := by
  funext i
  refine (congrArg _ (ValueIdx.eq_ix2 i)).trans ((OutV_at A B c (i 0) (i 1)).trans ?_)
  refine congrArg (fun q => quant (greatest A B) (prod A B q)) ?_
  funext d
  match d with
  | ⟨0, _⟩ => exact Fin.ext (congrArg (· + (i 0).val) (Nat.mul_comm 256 c.val))
  | ⟨1, _⟩ => rfl

/-- The kernel in exact arithmetic, on the blocks of the reference's arrays, leaves the blocks of its result. -/
theorem agree : Cert.algebraic_KernelIdeal_ReferenceIdeal (hKernelIdeal := Cert.KernelIdeal.Gen.facts)
    (hReferenceIdeal := Cert.ReferenceIdeal.Gen.facts) := by
  intro m g m' g' _ hag
  have hx : xOf m = blocks (m' (((0 : Dev Cert.ReferenceIdeal.nD).tc : Thread Cert.ReferenceIdeal.nD Cert.ReferenceIdeal.τ).loc Cert.ReferenceIdeal.main_arg0)) :=
    funext fun c => (xOf_eq m c).trans (hag c).1
  have hw : wOf m = fun _ => m' (((0 : Dev Cert.ReferenceIdeal.nD).tc : Thread Cert.ReferenceIdeal.nD Cert.ReferenceIdeal.τ).loc Cert.ReferenceIdeal.main_arg1) :=
    funext fun c => (wOf_eq m c).trans (hag c).2
  refine ⟨Cert.ReferenceIdeal.Meaning.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).2⟩) (run_arrays (F := Ideal) m g)
    refine (h.1 c).1.trans ?_
    rw [hx, hw]
    exact rows_of_result _ _ c
  · exact (θ_run Cert.ReferenceIdeal.defs _ _).mono
      (fun r h => ⟨(h 0).1.trans (Cert.ReferenceIdeal.Meaning.result_eq _ _), (h 0).2⟩) (Cert.ReferenceIdeal.Value.run (F := Ideal) m' g')

end

theorem claim : Cert.Claim := ⟨Cert.Kernel.Gen.facts, Cert.KernelIdeal.Gen.facts, Cert.ReferenceIdeal.Gen.facts,
  quiet_kernel, quiet_ideal, quiet_reference, trivial, agree⟩

end Cert.Proof

end
